-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S24x512x2560 : Shape := ⟨3, ![24, 512, 2560]⟩
abbrev S2560x10240 : Shape := ⟨2, ![2560, 10240]⟩
abbrev S10240 : Shape := ⟨1, ![10240]⟩
abbrev S2560x8 : Shape := ⟨2, ![2560, 8]⟩
abbrev S8x10240 : Shape := ⟨2, ![8, 10240]⟩
abbrev S_ : Shape := ⟨0, ![]⟩

class Facts : Prop where
  bcast_S_S24x512x2560 : S_.BroadcastsInDim S24x512x2560 (![] : Fin 0 → Fin S24x512x2560.rank)
  reducesTo_S24x512x2560_S_d0_1_2 : S24x512x2560.ReducesTo [0, 1, 2] S_
  h_S_ : 0 < S_.numel

variable [Facts]

def fn {F : FTy → Type} [FloatOps F] (main_arg0 : FVec F S24x512x2560 .bf16) (main_arg1 : FVec F S2560x10240 .fp8e4m3) (main_arg2 : FVec F S10240 .f32) (main_arg3 : FVec F S2560x8 .bf16) (main_arg4 : FVec F S8x10240 .bf16) : IVec S_ 1 :=
  let main_v0 : FVec F S24x512x2560 .bf16 := Host.absf main_arg0
  let main_cst : FVec F S_ .bf16 := constant S_ .bf16 0x7F7F#16
  let main_v1 : FVec F S24x512x2560 .bf16 := broadcastInDim S24x512x2560 ![] bcast_S_S24x512x2560 main_cst
  let main_v2 : IVec S24x512x2560 1 := cmpf .ole main_v0 main_v1
  let main_c : IVec S_ 1 := constantI S_ 1 1#1
  let main_v3 : IVec S_ 1 := (fun x v => Host.reduce IntOp.andi x v reducesTo_S24x512x2560_S_d0_1_2 h_S_) main_v2 main_c
  main_v3
-- ==== Kernel.lean ====
abbrev S24x512x2560 : Shape := ⟨3, ![24, 512, 2560]⟩
abbrev S2560x10240 : Shape := ⟨2, ![2560, 10240]⟩
abbrev S10240 : Shape := ⟨1, ![10240]⟩
abbrev S2560x8 : Shape := ⟨2, ![2560, 8]⟩
abbrev S8x10240 : Shape := ⟨2, ![8, 10240]⟩
abbrev S12288x2560 : Shape := ⟨2, ![12288, 2560]⟩
abbrev S1x10240 : Shape := ⟨2, ![1, 10240]⟩
abbrev S8x2560 : Shape := ⟨2, ![8, 2560]⟩
abbrev S12288x10240 : Shape := ⟨2, ![12288, 10240]⟩
abbrev S24x512 : Shape := ⟨2, ![24, 512]⟩
abbrev S512x2560 : Shape := ⟨2, ![512, 2560]⟩
abbrev S2560x1024 : Shape := ⟨2, ![2560, 1024]⟩
abbrev S1x1024 : Shape := ⟨2, ![1, 1024]⟩
abbrev S8x1024 : Shape := ⟨2, ![8, 1024]⟩
abbrev S512x1024 : Shape := ⟨2, ![512, 1024]⟩
abbrev S512x8 : Shape := ⟨2, ![512, 8]⟩
abbrev S512x1 : Shape := ⟨2, ![512, 1]⟩
abbrev S512 : Shape := ⟨1, ![512]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S24x512x2560, .bf16⟩
  | .hbm, ⟨1, _⟩ => ⟨S2560x10240, .fp8e4m3⟩
  | .hbm, ⟨2, _⟩ => ⟨S10240, .f32⟩
  | .hbm, ⟨3, _⟩ => ⟨S2560x8, .bf16⟩
  | .hbm, ⟨4, _⟩ => ⟨S8x10240, .bf16⟩
  | .hbm, ⟨5, _⟩ => ⟨S12288x2560, .bf16⟩
  | .hbm, ⟨6, _⟩ => ⟨S1x10240, .f32⟩
  | .hbm, ⟨7, _⟩ => ⟨S8x2560, .bf16⟩
  | .hbm, ⟨8, _⟩ => ⟨S12288x10240, .bf16⟩
  | .hbm, ⟨9, _⟩ => ⟨S12288x2560, .fp8e4m3⟩
  | .hbm, ⟨10, _⟩ => ⟨S24x512, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .fp8e4m3⟩
  | .local _ .vmem, ⟨3, _⟩ => ⟨S2560x1024, .fp8e4m3⟩
  | .local _ .vmem, ⟨4, _⟩ => ⟨S1x1024, .f32⟩
  | .local _ .vmem, ⟨5, _⟩ => ⟨S1x1024, .f32⟩
  | .local _ .vmem, ⟨6, _⟩ => ⟨S8x2560, .bf16⟩
  | .local _ .vmem, ⟨7, _⟩ => ⟨S8x1024, .bf16⟩
  | .local _ .vmem, ⟨8, _⟩ => ⟨S8x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2560, .fp8e4m3⟩
  | .local _ .vmem, ⟨12, _⟩ => ⟨S512x2560, .fp8e4m3⟩
  | .local _ .vmem, ⟨13, _⟩ => ⟨S24x512, .f32⟩
  | .local _ .vmem, ⟨14, _⟩ => ⟨S512x8, .bf16⟩
  | .local _ .vmem, ⟨15, _⟩ => ⟨S512x1, .f32⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![24, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v120 : Index := Scalar.indexCast arg0
  let c0_40 : Index := 0#32
  ![v120.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2560x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S24x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S24x512x2560 : Shape := ⟨3, ![24, 512, 2560]⟩
abbrev S2560x10240 : Shape := ⟨2, ![2560, 10240]⟩
abbrev S10240 : Shape := ⟨1, ![10240]⟩
abbrev S2560x8 : Shape := ⟨2, ![2560, 8]⟩
abbrev S8x10240 : Shape := ⟨2, ![8, 10240]⟩
abbrev S12288x2560 : Shape := ⟨2, ![12288, 2560]⟩
abbrev S1x10240 : Shape := ⟨2, ![1, 10240]⟩
abbrev S12288x10240 : Shape := ⟨2, ![12288, 10240]⟩
abbrev S24x512 : Shape := ⟨2, ![24, 512]⟩
abbrev S12288 : Shape := ⟨1, ![12288]⟩
abbrev S12288x1 : Shape := ⟨2, ![12288, 1]⟩
abbrev S12288x8 : Shape := ⟨2, ![12288, 8]⟩

abbrev nBuf : Space → Nat
  | .hbm => 10
  | .vmem => 8
  | .smem => 0
  | _ => 0

abbrev bufTy : (tb : Table) → Fin (tcTables nBuf tb) → BufTy
  | .hbm, ⟨0, _⟩ => ⟨S24x512x2560, .bf16⟩
  | .hbm, ⟨1, _⟩ => ⟨S2560x10240, .fp8e4m3⟩
  | .hbm, ⟨2, _⟩ => ⟨S10240, .f32⟩
  | .hbm, ⟨3, _⟩ => ⟨S2560x8, .bf16⟩
  | .hbm, ⟨4, _⟩ => ⟨S8x10240, .bf16⟩
  | .hbm, ⟨5, _⟩ => ⟨S12288x2560, .bf16⟩
  | .hbm, ⟨6, _⟩ => ⟨S1x10240, .f32⟩
  | .hbm, ⟨7, _⟩ => ⟨S12288x10240, .bf16⟩
  | .hbm, ⟨8, _⟩ => ⟨S12288x2560, .fp8e4m3⟩
  | .hbm, ⟨9, _⟩ => ⟨S24x512, .f32⟩
  | .local _ .vmem, ⟨0, _⟩ => ⟨S12288x2560, .bf16⟩
  | .local _ .vmem, ⟨1, _⟩ => ⟨S2560x10240, .fp8e4m3⟩
  | .local _ .vmem, ⟨2, _⟩ => ⟨S1x10240, .f32⟩
  | .local _ .vmem, ⟨3, _⟩ => ⟨S2560x8, .bf16⟩
  | .local _ .vmem, ⟨4, _⟩ => ⟨S8x10240, .bf16⟩
  | .local _ .vmem, ⟨5, _⟩ => ⟨S12288x10240, .bf16⟩
  | .local _ .vmem, ⟨6, _⟩ => ⟨S12288x2560, .fp8e4m3⟩
  | .local _ .vmem, ⟨7, _⟩ => ⟨S24x512, .f32⟩
  | _, _ => ⟨S24x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Runs.lean ====
/-
  What the kernel's runs share: the condition of its branch in closed form, the memrefs the body is handed, the invariant over
  its two scratch buffers, and the block functions one point computes.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pipeline.ValueKit.Basic
public import Idealize.ShloMosaic.Lib.Pipeline.DatRel
public import Idealize.ShloMosaic.Lib.Pipeline.ArrRel

@[expose] public section

-- the long axes ask for deep recursion
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-- The offsets of a whole two-axis buffer. -/
theorem hz2 : (![0, 0] : Fin 2 → Nat) = fun _ => 0 := by funext a; fin_cases a <;> rfl

/-! ## What one point of the kernel computes from its blocks -/

/-- The codes of a 512-row block of activations. -/
abbrev codesBlk (x0 : Vec F S512x2560 .bf16) : FVec F S512x2560 .fp8e4m3 :=
  k0_pay1 (Scalar.ofBits .f32 0x43E00000#32) (k0_pay11 (k0_pay6 x0) (k0_pay7 x0) (k0_pay8 x0) 4#32)
/-- The scales of its rows, one column. -/
abbrev scaleCol (x0 : Vec F S512x2560 .bf16) : FVec F S512x1 .f32 := k0_pay10 (k0_pay7 x0) (k0_pay8 x0) 4#32
/-- The block's product with the first adapter matrix, rounded. -/
abbrev tBlk (x0 : Vec F S512x2560 .bf16) (x3 : Vec F S8x2560 .bf16) : FVec F S512x8 .bf16 := k0_pay4 (k0_pay6 x0) x3
/-- The block of the result: codes times weights, scaled, plus the adapter. -/
abbrev yBlk (x0 : Vec F S512x2560 .bf16) (x1 : Vec F S2560x1024 .fp8e4m3) (x2 : Vec F S1x1024 .f32) (x3 : Vec F S8x2560 .bf16)
    (x4 : Vec F S8x1024 .bf16) : FVec F S512x1024 .bf16 :=
  k0_pay5 (codesBlk x0) x1 (k0_pay2 (scaleCol x0)) x2 (tBlk x0 x3) x4

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2560 .bf16 := win0_0.stage (cfg0.slots t 0)
/-- The window's buffer is whole. -/
abbrev hs0_0 (t : Fin cfg0.N) : (ms0_0 t).IsWhole := hstage0_0 ((cfg0.slots t 0).cast nbuf0_0)
/-- The window's buffer at a point. -/
abbrev ms0_1 (t : Fin cfg0.N) : Memref sig .tc .vmem S2560x1024 .fp8e4m3 := win0_1.stage (cfg0.slots t 1)
/-- The window's buffer is whole. -/
abbrev hs0_1 (t : Fin cfg0.N) : (ms0_1 t).IsWhole := hstage0_1 ((cfg0.slots t 1).cast nbuf0_1)
/-- The window's buffer at a point. -/
abbrev ms0_2 (t : Fin cfg0.N) : Memref sig .tc .vmem S1x1024 .f32 := win0_2.stage (cfg0.slots t 2)
/-- The window's buffer is whole. -/
abbrev hs0_2 (t : Fin cfg0.N) : (ms0_2 t).IsWhole := hstage0_2 ((cfg0.slots t 2).cast nbuf0_2)
/-- The window's buffer at a point. -/
abbrev ms0_3 (t : Fin cfg0.N) : Memref sig .tc .vmem S8x2560 .bf16 := win0_3.stage (cfg0.slots t 3)
/-- The window's buffer is whole. -/
abbrev hs0_3 (t : Fin cfg0.N) : (ms0_3 t).IsWhole := hstage0_3 ((cfg0.slots t 3).cast nbuf0_3)
/-- The window's buffer at a point. -/
abbrev ms0_4 (t : Fin cfg0.N) : Memref sig .tc .vmem S8x1024 .bf16 := win0_4.stage (cfg0.slots t 4)
/-- The window's buffer is whole. -/
abbrev hs0_4 (t : Fin cfg0.N) : (ms0_4 t).IsWhole := hstage0_4 ((cfg0.slots t 4).cast nbuf0_4)
/-- The window's buffer at a point. -/
abbrev ms0_5 (t : Fin cfg0.N) : Memref sig .tc .vmem S512x1024 .bf16 := win0_5.stage (cfg0.slots t 5)
/-- The window's buffer is whole. -/
abbrev hs0_5 (t : Fin cfg0.N) : (ms0_5 t).IsWhole := hstage0_5 ((cfg0.slots t 5).cast nbuf0_5)
/-- The window's buffer at a point. -/
abbrev ms0_6 (t : Fin cfg0.N) : Memref sig .tc .vmem S512x2560 .fp8e4m3 := win0_6.stage (cfg0.slots t 6)
/-- The window's buffer is whole. -/
abbrev hs0_6 (t : Fin cfg0.N) : (ms0_6 t).IsWhole := hstage0_6 ((cfg0.slots t 6).cast nbuf0_6)
/-- The window's buffer at a point. -/
abbrev ms0_7 (t : Fin cfg0.N) : Memref sig .tc .vmem S24x512 .f32 := win0_7.stage (cfg0.slots t 7)
/-- The window's buffer is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x8 .bf16 := Memref.whole cc0_scratch0
/-- The scratch buffer of the scales. -/
abbrev scM0_1 : Memref sig .tc .vmem S512x1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/-
  One point of the kernel with its branch taken.
-/
module

public import proofs.«01_k».proof.Proof.Runs

@[expose] public section

-- the long axes ask for deep recursion
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- The point that starts a block row (its branch taken): from the input blocks at `x0` … `x4` and the scale window at `d9`, the body
    leaves the block of the result, the codes of its block of activations, its row of the scale window — the others as they were
    —, and in its two scratch buffers the adapter product and the scales. -/
theorem kernelRunA (c : Dev nD) (i : grid0.Coords) (arg2 : Memref sig .tc .vmem S512x2560 .bf16) (harg2 : arg2.IsWhole) (arg3 : Memref sig .tc .vmem S2560x1024 .fp8e4m3) (harg3 : arg3.IsWhole) (arg4 : Memref sig .tc .vmem S1x1024 .f32) (harg4 : arg4.IsWhole) (arg5 : Memref sig .tc .vmem S8x2560 .bf16) (harg5 : arg5.IsWhole) (arg6 : Memref sig .tc .vmem S8x1024 .bf16) (harg6 : arg6.IsWhole) (arg7 : Memref sig .tc .vmem S512x1024 .bf16) (harg7 : arg7.IsWhole) (arg8 : Memref sig .tc .vmem S512x2560 .fp8e4m3) (harg8 : arg8.IsWhole) (arg9 : Memref sig .tc .vmem S24x512 .f32) (harg9 : arg9.IsWhole) (arg10 : Memref sig .tc .vmem S512x8 .bf16) (harg10 : arg10.IsWhole) (arg11 : Memref sig .tc .vmem S512x1 .f32) (harg11 : arg11.IsWhole) (hc0 : cond0_0 i)
    (x0 : Vec F S512x2560 .bf16) (x1 : Vec F S2560x1024 .fp8e4m3) (x2 : Vec F S1x1024 .f32) (x3 : Vec F S8x2560 .bf16) (x4 : Vec F S8x1024 .bf16)
    (d9 : Vec F S24x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d9 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (yBlk x0 x1 x2 x3 x4) ∗ owns (c : Thread nD τ) arg8 fullShare (codesBlk x0) ∗ (∃ X, ⌜(∀ y : S1x512.Idx, X ((Rect.unit (s := S24x512) (k0_off1 i) S1x512.size (k0_off1_inb i hc0)).idx y) = k0_pay3 (scaleCol x0) y) ∧ ∀ z, z ∉ (Rect.unit (s := S24x512) (k0_off1 i) S1x512.size (k0_off1_inb i hc0)).set → X z = d9 z⌝ ∗ owns (c : Thread nD τ) arg9 fullShare X) ∗ owns (c : Thread nD τ) arg10 fullShare (tBlk x0 x3) ∗ owns (c : Thread nD τ) arg11 fullShare (k0_pay2 (scaleCol x0))) -∗ K ⟨⟩))
          ⊢ wp frame (wpE (defs₀ (F := F)) Variants.none c none) E (cc0_fp8_linear_lora i arg2 harg2 arg3 harg3 arg4 harg4 arg5 harg5 arg6 harg6 arg7 harg7 arg8 harg8 arg9 harg9 arg10 harg10 arg11 harg11) K := by
    intro E K
    simp only [cc0_fp8_linear_lora_eq_skeleton]; unfold cc0_fp8_linear_lora_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7
    sl_exec (disch := first | sl_exact hc0)
    sl_step
    have L2 : View.readAt (Elt F) arg2.view (Rect.unit (s := S512x2560) ![0, 0] ![512, 2560] inb_S512x2560_S512x2560_0_0).toLoadRect (harg2.unread x0) = x0 := by
      rw [View.readAt_eq_ld, harg2.read_unread]; exact View.ld_unit_zero (S := S512x2560) hz2 _ _
    have L3 : View.readAt (Elt F) arg3.view (Rect.unit (s := S2560x1024) ![0, 0] ![2560, 1024] inb_S2560x1024_S2560x1024_0_0).toLoadRect (harg3.unread x1) = x1 := by
      rw [View.readAt_eq_ld, harg3.read_unread]; exact View.ld_unit_zero (S := S2560x1024) hz2 _ _
    have L4 : View.readAt (Elt F) arg4.view (Rect.unit (s := S1x1024) ![0, 0] ![1, 1024] inb_S1x1024_S1x1024_0_0).toLoadRect (harg4.unread x2) = x2 := by
      rw [View.readAt_eq_ld, harg4.read_unread]; exact View.ld_unit_zero (S := S1x1024) hz2 _ _
    have L5 : View.readAt (Elt F) arg5.view (Rect.unit (s := S8x2560) ![0, 0] ![8, 2560] inb_S8x2560_S8x2560_0_0).toLoadRect (harg5.unread x3) = x3 := by
      rw [View.readAt_eq_ld, harg5.read_unread]; exact View.ld_unit_zero (S := S8x2560) hz2 _ _
    have L6 : View.readAt (Elt F) arg6.view (Rect.unit (s := S8x1024) ![0, 0] ![8, 1024] inb_S8x1024_S8x1024_0_0).toLoadRect (harg6.unread x4) = x4 := by
      rw [View.readAt_eq_ld, harg6.read_unread]; exact View.ld_unit_zero (S := S8x1024) hz2 _ _
    have C8 : ∀ w, arg8.view.readCov (Val := Elt F) [⟨Rect.unit (s := S512x2560) ![0, 0] ![512, 2560] inb_S512x2560_S512x2560_0_0, w⟩] (Rect.unit (s := S512x2560) ![0, 0] ![512, 2560] inb_S512x2560_S512x2560_0_0).toLoadRect = w :=
      fun w => View.readCov_unit_zero (S := S512x2560) _ hz2 _ w
    have C10 : ∀ w, arg10.view.readCov (Val := Elt F) [⟨Rect.unit (s := S512x8) ![0, 0] ![512, 8] inb_S512x8_S512x8_0_0, w⟩] (Rect.unit (s := S512x8) ![0, 0] ![512, 8] inb_S512x8_S512x8_0_0).toLoadRect = w :=
      fun w => View.readCov_unit_zero (S := S512x8) _ hz2 _ w
    have C11 : ∀ w, arg11.view.readCov (Val := Elt F) [⟨Rect.unit (s := S512x1) ![0, 0] ![512, 1] inb_S512x1_S512x1_0_0, w⟩] (Rect.unit (s := S512x1) ![0, 0] ![512, 1] inb_S512x1_S512x1_0_0).toLoadRect = w :=
      fun w => View.readCov_unit_zero (S := S512x1) _ hz2 _ w
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      (try delta kernelRunA.sl.v3); (try delta kernelRunA.sl.v7); (try delta kernelRunA.sl.v14); (try delta kernelRunA.sl.HS0_1); (try delta kernelRunA.sl.HS1_1); (try delta kernelRunA.sl.H6_1); (try delta kernelRunA.sl.r_4); (try delta kernelRunA.sl.r_3); (try delta kernelRunA.sl.r_2); (try delta kernelRunA.sl.r_1); (try delta kernelRunA.sl.r); (try delta kernelRunA.sl.cst_35)
      simp only [L2, L3, L4, L5, L6, C8, C10, C11]
      try rfl
    isplitl [H6]
    · iexists _; isplitr; swap; · iexact H6
      ipureintro
      refine (View.read_writes_full _ _ _ _ _).trans ?_
      (try delta kernelRunA.sl.v3); (try delta kernelRunA.sl.v7); (try delta kernelRunA.sl.v14); (try delta kernelRunA.sl.HS0_1); (try delta kernelRunA.sl.HS1_1); (try delta kernelRunA.sl.H6_1); (try delta kernelRunA.sl.r_4); (try delta kernelRunA.sl.r_3); (try delta kernelRunA.sl.r_2); (try delta kernelRunA.sl.r_1); (try delta kernelRunA.sl.r); (try delta kernelRunA.sl.cst_35)
      simp only [L2]
      try rfl
    isplitl [H7]
    · iexists _; isplitr; swap
      · iexists _; isplitr; swap; · iexact H7
        ipureintro; rfl
      ipureintro
      refine ⟨fun y => ?_, fun z hz => ?_⟩
      · refine (View.read_writes_cons_unit_of_mem _ _ _ _ _ _ y rfl fun a => by show _ + 1 * _ = _; rw [Nat.one_mul]; rfl).trans ?_
        (try delta kernelRunA.sl.v3); (try delta kernelRunA.sl.v7); (try delta kernelRunA.sl.v14); (try delta kernelRunA.sl.HS0_1); (try delta kernelRunA.sl.HS1_1); (try delta kernelRunA.sl.H6_1); (try delta kernelRunA.sl.r_4); (try delta kernelRunA.sl.r_3); (try delta kernelRunA.sl.r_2); (try delta kernelRunA.sl.r_1); (try delta kernelRunA.sl.r); (try delta kernelRunA.sl.cst_35)
        simp only [L2]
        try rfl
      · rw [View.read_writes_cons_unit _ _ _ _ _ _ rfl, dif_neg (fun h => hz (Rect.mem_set_unit.mpr h)), View.writes_nil, harg9.read_unread]
    isplitl [HS0]
    · iexists _; isplitr; swap; · iexact HS0
      ipureintro
      refine (View.read_writes_full _ _ _ _ _).trans ?_
      (try delta kernelRunA.sl.v3); (try delta kernelRunA.sl.v7); (try delta kernelRunA.sl.v14); (try delta kernelRunA.sl.HS0_1); (try delta kernelRunA.sl.HS1_1); (try delta kernelRunA.sl.H6_1); (try delta kernelRunA.sl.r_4); (try delta kernelRunA.sl.r_3); (try delta kernelRunA.sl.r_2); (try delta kernelRunA.sl.r_1); (try delta kernelRunA.sl.r); (try delta kernelRunA.sl.cst_35)
      simp only [L2, L5]
      try rfl
    iexists _; isplitr; swap; · iexact HS1
    ipureintro
    refine (View.read_writes_full _ _ _ _ _).trans ?_
    (try delta kernelRunA.sl.v3); (try delta kernelRunA.sl.v7); (try delta kernelRunA.sl.v14); (try delta kernelRunA.sl.HS0_1); (try delta kernelRunA.sl.HS1_1); (try delta kernelRunA.sl.H6_1); (try delta kernelRunA.sl.r_4); (try delta kernelRunA.sl.r_3); (try delta kernelRunA.sl.r_2); (try delta kernelRunA.sl.r_1); (try delta kernelRunA.sl.r); (try delta kernelRunA.sl.cst_35)
    simp only [L2]
    try rfl

end Cert.KernelIdeal.Hand

end
-- ==== Proof.RunB.lean ====
/-
  One point of the kernel with its branch not taken.
-/
module

public import proofs.«01_k».proof.Proof.RunA

@[expose] public section

-- the long axes ask for deep recursion
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2000000 in
/-- A later point of a block row (its branch not taken): the body reads the codes `cd`, the adapter product `tt` and the scales `xs`
    of the row, leaves the block of the result, and everything else as it was. -/
theorem kernelRunB (c : Dev nD) (i : grid0.Coords) (arg2 : Memref sig .tc .vmem S512x2560 .bf16) (harg2 : arg2.IsWhole) (arg3 : Memref sig .tc .vmem S2560x1024 .fp8e4m3) (harg3 : arg3.IsWhole) (arg4 : Memref sig .tc .vmem S1x1024 .f32) (harg4 : arg4.IsWhole) (arg5 : Memref sig .tc .vmem S8x2560 .bf16) (harg5 : arg5.IsWhole) (arg6 : Memref sig .tc .vmem S8x1024 .bf16) (harg6 : arg6.IsWhole) (arg7 : Memref sig .tc .vmem S512x1024 .bf16) (harg7 : arg7.IsWhole) (arg8 : Memref sig .tc .vmem S512x2560 .fp8e4m3) (harg8 : arg8.IsWhole) (arg9 : Memref sig .tc .vmem S24x512 .f32) (harg9 : arg9.IsWhole) (arg10 : Memref sig .tc .vmem S512x8 .bf16) (harg10 : arg10.IsWhole) (arg11 : Memref sig .tc .vmem S512x1 .f32) (harg11 : arg11.IsWhole) (hc0 : ¬cond0_0 i)
    (x0 : Vec F S512x2560 .bf16) (x1 : Vec F S2560x1024 .fp8e4m3) (x2 : Vec F S1x1024 .f32) (x3 : Vec F S8x2560 .bf16) (x4 : Vec F S8x1024 .bf16)
    (cd : Vec F S512x2560 .fp8e4m3) (d9 : Vec F S24x512 .f32) (tt : Vec F S512x8 .bf16) (xs : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare cd ∗ owns (c : Thread nD τ) arg9 fullShare d9 ∗ owns (c : Thread nD τ) arg10 fullShare tt ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 cd x1 xs x2 tt x4) ∗ owns (c : Thread nD τ) arg8 fullShare cd ∗ owns (c : Thread nD τ) arg9 fullShare d9 ∗ owns (c : Thread nD τ) arg10 fullShare tt ∗ owns (c : Thread nD τ) arg11 fullShare xs) -∗ K ⟨⟩))
          ⊢ wp frame (wpE (defs₀ (F := F)) Variants.none c none) E (cc0_fp8_linear_lora i arg2 harg2 arg3 harg3 arg4 harg4 arg5 harg5 arg6 harg6 arg7 harg7 arg8 harg8 arg9 harg9 arg10 harg10 arg11 harg11) K := by
    intro E K
    simp only [cc0_fp8_linear_lora_eq_skeleton]; unfold cc0_fp8_linear_lora_skel

    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hf7; obtain rfl := harg10.eq_unread hfs0; obtain rfl := harg11.eq_unread hfs1
    sl_exec (disch := first | sl_exact hc0)
    sl_step
    have L2 : View.readAt (Elt F) arg2.view (Rect.unit (s := S512x2560) ![0, 0] ![512, 2560] inb_S512x2560_S512x2560_0_0).toLoadRect (harg2.unread x0) = x0 := by
      rw [View.readAt_eq_ld, harg2.read_unread]; exact View.ld_unit_zero (S := S512x2560) hz2 _ _
    have L3 : View.readAt (Elt F) arg3.view (Rect.unit (s := S2560x1024) ![0, 0] ![2560, 1024] inb_S2560x1024_S2560x1024_0_0).toLoadRect (harg3.unread x1) = x1 := by
      rw [View.readAt_eq_ld, harg3.read_unread]; exact View.ld_unit_zero (S := S2560x1024) hz2 _ _
    have L4 : View.readAt (Elt F) arg4.view (Rect.unit (s := S1x1024) ![0, 0] ![1, 1024] inb_S1x1024_S1x1024_0_0).toLoadRect (harg4.unread x2) = x2 := by
      rw [View.readAt_eq_ld, harg4.read_unread]; exact View.ld_unit_zero (S := S1x1024) hz2 _ _
    have L5 : View.readAt (Elt F) arg5.view (Rect.unit (s := S8x2560) ![0, 0] ![8, 2560] inb_S8x2560_S8x2560_0_0).toLoadRect (harg5.unread x3) = x3 := by
      rw [View.readAt_eq_ld, harg5.read_unread]; exact View.ld_unit_zero (S := S8x2560) hz2 _ _
    have L6 : View.readAt (Elt F) arg6.view (Rect.unit (s := S8x1024) ![0, 0] ![8, 1024] inb_S8x1024_S8x1024_0_0).toLoadRect (harg6.unread x4) = x4 := by
      rw [View.readAt_eq_ld, harg6.read_unread]; exact View.ld_unit_zero (S := S8x1024) hz2 _ _
    have L8 : View.readAt (Elt F) arg8.view (Rect.unit (s := S512x2560) ![0, 0] ![512, 2560] inb_S512x2560_S512x2560_0_0).toLoadRect (harg8.unread cd) = cd := by
      rw [View.readAt_eq_ld, harg8.read_unread]; exact View.ld_unit_zero (S := S512x2560) hz2 _ _
    have L10 : View.readAt (Elt F) arg10.view (Rect.unit (s := S512x8) ![0, 0] ![512, 8] inb_S512x8_S512x8_0_0).toLoadRect (harg10.unread tt) = tt := by
      rw [View.readAt_eq_ld, harg10.read_unread]; exact View.ld_unit_zero (S := S512x8) hz2 _ _
    have L11 : View.readAt (Elt F) arg11.view (Rect.unit (s := S512x1) ![0, 0] ![512, 1] inb_S512x1_S512x1_0_0).toLoadRect (harg11.unread xs) = xs := by
      rw [View.readAt_eq_ld, harg11.read_unread]; exact View.ld_unit_zero (S := S512x1) hz2 _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      (try delta kernelRunB.sl.v3); (try delta kernelRunB.sl.v7); (try delta kernelRunB.sl.v14); (try delta kernelRunB.sl.HS0_1); (try delta kernelRunB.sl.HS1_1); (try delta kernelRunB.sl.H6_1); (try delta kernelRunB.sl.r_4); (try delta kernelRunB.sl.r_3); (try delta kernelRunB.sl.r_2); (try delta kernelRunB.sl.r_1); (try delta kernelRunB.sl.r); (try delta kernelRunB.sl.cst_35)
      simp only [L2, L3, L4, L5, L6, L8, L10, L11]
      try rfl
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _; isplitr; · ipureintro; exact harg11.read_unread _
    iexact HS1

end Cert.KernelIdeal.Hand

end
-- ==== Proof.Data.lean ====
/-
  The proof data of the kernel's pipeline: what each window's buffer holds after a point, what the two scratch buffers carry from
  point to point, and what of the scale window is settled at a point.
-/
module

public import proofs.«01_k».proof.Proof.RunB

@[expose] public section

-- the long axes ask for deep recursion
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s block row: the one that computes the codes, the scales and the adapter product of the row. -/
def st (t : Fin cfg0.N) : Fin cfg0.N := ⟨t.val - t.val % 10, by omega⟩
/-- The first point of a row of blocks, as a number. -/
theorem st_val (t : Fin cfg0.N) : (st t).val = t.val - t.val % 10 := rfl
/-- A point at column 0 is the first of its row of blocks. -/
theorem st_self {t : Fin cfg0.N} (h : t.val % 10 = 0) : st t = t := Fin.ext (by rw [st_val]; omega)
/-- The point before `t`. -/
def prev (t : Fin cfg0.N) : Fin cfg0.N := ⟨t.val - 1, by omega⟩
/-- The point before, as a number. -/
theorem prev_val (t : Fin cfg0.N) : (prev t).val = t.val - 1 := rfl
/-- Away from column 0 the point before is in the same row of blocks. -/
theorem st_prev {t : Fin cfg0.N} (h : ¬t.val % 10 = 0) : st (prev t) = st t := Fin.ext (by rw [st_val, st_val, prev_val]; omega)

/-- The codes of `t`'s block row. -/
def codesAt (c : Dev nD) (t : Fin cfg0.N) : FVec F S512x2560 .fp8e4m3 := codesBlk (iblk m c 0 (st t))
/-- The scales of its rows. -/
def scaleAt (c : Dev nD) (t : Fin cfg0.N) : FVec F S512x1 .f32 := scaleCol (iblk m c 0 (st t))
/-- The row's adapter product. -/
def tAt (c : Dev nD) (t : Fin cfg0.N) : FVec F S512x8 .bf16 := tBlk (iblk m c 0 (st t)) (iblk m c 3 (st t))
/-- The block of the result at `t`. -/
def yAt (c : Dev nD) (t : Fin cfg0.N) : FVec F S512x1024 .bf16 :=
  k0_pay5 (codesAt m c t) (iblk m c 1 t) (k0_pay2 (scaleAt m c t)) (iblk m c 2 t) (tAt m c t) (iblk m c 4 t)

/-- What the scale window's buffer holds once `t` has run: the scales of every block row started so far, each in its row; of the
    rows to come nothing is said. -/
def ScaleMeets (c : Dev nD) (t : Fin cfg0.N) (X : S24x512.Idx → Elt F .f32) : Prop :=
  ∀ (s : Fin cfg0.N) (z : S24x512.Idx), s.val ≤ t.val → s.val % 10 = 0 → (z 0).val = s.val / 10 →
    X z = k0_pay3 (scaleAt m c s) (Shape.pair (d := ![1, 512]) ⟨0, Nat.one_pos⟩ (z 1))

/-- What the scratch buffers hold after point `t`: the adapter product and the scales of its block row. -/
def scr (c : Dev nD) (t : Fin cfg0.N) : sProp 𝕄 :=
  iprop(iprop(owns (c : Thread nD τ) scM0_0 fullShare (tAt m c t) ∗ owns (c : Thread nD τ) scM0_1 fullShare (k0_pay2 (scaleAt m c t)))
    ∗ (∃ r, prngReg c r))

/-- The invariant between points: before the first, the scratch buffers at anything; afterwards `scr` of the point just run. -/
def PhiAt (c : Dev nD) (n : Fin (cfg0.N + 1)) : sProp 𝕄 :=
  if h : n.val = 0 then Pipeline.ΦA spec0 c else scr m c ⟨n.val - 1, by omega⟩

/-- Before the first point the scratch buffers hold anything. -/
theorem PhiAt_zero (c : Dev nD) (n : Fin (cfg0.N + 1)) (h : n.val = 0) : PhiAt m c n = Pipeline.ΦA spec0 c := by
  unfold PhiAt; rw [dif_pos h]
/-- After a point the scratch buffers hold that point's contents. -/
theorem PhiAt_succ (c : Dev nD) (t : Fin cfg0.N) : PhiAt m c t.succ = scr m c t := by
  unfold PhiAt; rw [dif_neg (by rw [Fin.val_succ]; exact Nat.succ_ne_zero _)]; exact congrArg (scr m c) (Fin.ext (by simp))
/-- Before a later point the scratch buffers hold the previous point's contents. -/
theorem PhiAt_castSucc (c : Dev nD) (t : Fin cfg0.N) (h : t.val ≠ 0) : PhiAt m c t.castSucc = scr m c (prev t) := by
  unfold PhiAt; rw [dif_neg (by simpa using h)]; rfl
/-- The scratch buffers' contents forgotten. -/
theorem scr_weak (c : Dev nD) (t : Fin cfg0.N) : scr m c t ⊢ (Pipeline.ΦA spec0 c : sProp 𝕄) := by
  rw [PhiA0_eq]; unfold scr
  iintro ⟨⟨H0, H1⟩, Hg⟩
  isplitl [H0 H1]
  · isplitl [H0]
    · iexists _; iexact H0
    iexists _; iexact H1
  iexact Hg
/-- The scratch buffers' contents may always be forgotten. -/
theorem PhiAt_weak (c : Dev nD) (n : Fin (cfg0.N + 1)) : PhiAt m c n ⊢ (Pipeline.ΦA spec0 c : sProp 𝕄) := by
  unfold PhiAt; split
  · exact .rfl
  · exact scr_weak m c _

/-- The window held to a predicate: the scale window, whose buffer starts at contents nobody states and is filled row by row. -/
def held : Fin 8 → Bool := fun w => w.val == 7
/-- The predicate it is held to. -/
def Rl (c : Dev nD) : (w : Fin cfg0.W) → Fin cfg0.N → ((cfg0.win w).block.Idx → Elt F (cfg0.win w).elt) → Prop
  | ⟨7, _⟩ => fun t X => ScaleMeets m c t X
  | _ => fun _ _ => True

/-- The proof data on core `c`: the arrays as the region finds them; after point `t` each input's buffer at its block, the result's
    at `yAt`, the codes' at `codesAt`, the scale window's unnamed; the invariant `PhiAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => codesAt m c t
    | ⟨7, h⟩ => Pipeline.Dat.unnamed (cfg := cfg0) ⟨7, h⟩ t
  Φ n := PhiAt m c n
  q _ := fullShare
  owed _ := 0

/-- The arrays start as the host code leaves them. -/
theorem A_eq (c : Dev nD) (w : Fin cfg0.W) : (dats m 0 c).A w = V m c (Pipeline.arrRef spec0 w) := by
  dsimp only [dats]
/-- The scratch buffers' contents in the kernel's data. -/
theorem Phi_eq (c : Dev nD) (n : Fin (cfg0.N + 1)) : (dats m 0 c).Φ n = PhiAt m c n := by dsimp only [dats]
/-- What a point leaves in this window's block. -/
theorem after0_0 (c : Dev nD) (t : Fin cfg0.N) : (dats m 0 c).after 0 t = iblk m c 0 t := by dsimp only [dats]
/-- What a point leaves in this window's block. -/
theorem after0_1 (c : Dev nD) (t : Fin cfg0.N) : (dats m 0 c).after 1 t = iblk m c 1 t := by dsimp only [dats]
/-- What a point leaves in this window's block. -/
theorem after0_2 (c : Dev nD) (t : Fin cfg0.N) : (dats m 0 c).after 2 t = iblk m c 2 t := by dsimp only [dats]
/-- What a point leaves in this window's block. -/
theorem after0_3 (c : Dev nD) (t : Fin cfg0.N) : (dats m 0 c).after 3 t = iblk m c 3 t := by dsimp only [dats]
/-- What a point leaves in this window's block. -/
theorem after0_4 (c : Dev nD) (t : Fin cfg0.N) : (dats m 0 c).after 4 t = iblk m c 4 t := by dsimp only [dats]
/-- What a point leaves in this window's block. -/
theorem after0_5 (c : Dev nD) (t : Fin cfg0.N) : (dats m 0 c).after 5 t = yAt m c t := by dsimp only [dats]
/-- What a point leaves in this window's block. -/
theorem after0_6 (c : Dev nD) (t : Fin cfg0.N) : (dats m 0 c).after 6 t = codesAt m c t := by dsimp only [dats]

/-! Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
/-- What a point finds in this window's block: the array's block. -/
theorem before0_1 (c : Dev nD) (t : Fin cfg0.N) (d) : (dats m 0 c).before 1 t d = iblk m c 1 t :=
  before0_1_of m (dats m 0 c) (A_eq m c 1) (after0_1 m c) t d
/-- What a point finds in this window's block: the array's block. -/
theorem before0_2 (c : Dev nD) (t : Fin cfg0.N) (d) : (dats m 0 c).before 2 t d = iblk m c 2 t :=
  before0_2_of m (dats m 0 c) (A_eq m c 2) (after0_2 m c) t d
/-- What a point finds in this window's block: the array's block. -/
theorem before0_3 (c : Dev nD) (t : Fin cfg0.N) (d) : (dats m 0 c).before 3 t d = iblk m c 3 t :=
  before0_3_of m (dats m 0 c) (A_eq m c 3) (after0_3 m c) t d
/-- What a point finds in this window's block: the array's block. -/
theorem before0_4 (c : Dev nD) (t : Fin cfg0.N) (d) : (dats m 0 c).before 4 t d = iblk m c 4 t :=
  before0_4_of m (dats m 0 c) (A_eq m c 4) (after0_4 m c) t d

/-- Window 5 is never idle (an output). -/
theorem liveAt0_5 : ∀ t : Fin cfg0.N, cfg0.idle 5 (grid0.coords t) = false := fun _ => rfl

/-- Window 6 is idle at the points whose branch is not taken, -/
theorem idleAt0_6 {t : Fin cfg0.N} (h : ¬t.val % 10 = 0) : cfg0.idle 6 (grid0.coords t) = true := by
  show (!(k0_cond1 (grid0.coords t) == 1#1)) = true
  have h' : ¬k0_cond1 (grid0.coords t) = 1#1 := fun hc => h ((hcond0_0 t).mp hc)
  rw [beq_false_of_ne h']; rfl
/-- and only there. -/
theorem liveAt0_6 {t : Fin cfg0.N} (h : t.val % 10 = 0) : cfg0.idle 6 (grid0.coords t) = false := by
  show (!(k0_cond1 (grid0.coords t) == 1#1)) = false
  have h' : k0_cond1 (grid0.coords t) = 1#1 := (hcond0_0 t).mpr h
  rw [h']; rfl

/-- The codes' buffer at a later point of a block row holds what the point before left. -/
theorem before_step (c : Dev nD) (d) (t : Fin cfg0.N) (h : ¬t.val % 10 = 0) : (dats m 0 c).before 6 t d = (dats m 0 c).left 6 (prev t) d := by
  have hfl : (cfg0.win 6).flush (prev t) = false := by
    rw [Bool.eq_false_iff]; intro hc
    have := (flush0_6 (prev t)).mp hc
    rw [prev_val] at this; omega
  rw [Dat.before_of_pos _ 6 t (by intro h0; rw [h0] at h; exact h rfl) rfl]
  exact if_neg (fun hc => Bool.false_ne_true (hfl.symm.trans hc))

/-- Within a block row the codes' buffer holds the row's codes: by induction on the position in the row. -/
theorem before0_6 (c : Dev nD) (d) : ∀ (k : ℕ) (t : Fin cfg0.N), t.val % 10 = k + 1 → (dats m 0 c).before 6 t d = codesAt m c t := by
  intro k
  induction k with
  | zero =>
    intro t h
    rw [before_step m c d t (by omega)]
    unfold Dat.left
    rw [liveAt0_6 (t := prev t) (by rw [prev_val]; omega)]
    dsimp only
    rw [show (dats m 0 c).kept 6 (prev t) d = (dats m 0 c).after 6 (prev t) from rfl, after0_6]
    unfold codesAt; rw [st_prev (by omega)]
  | succ k ih =>
    intro t h
    rw [before_step m c d t (by omega)]
    unfold Dat.left
    rw [idleAt0_6 (t := prev t) (by rw [prev_val]; omega)]
    dsimp only
    rw [ih (prev t) (by rw [prev_val]; omega)]
    unfold codesAt; rw [st_prev (by omega)]

end Cert.KernelIdeal.Hand

end
-- ==== Proof.Body.lean ====
/-
  The kernel's body at every point, from the two runs: what it finds and what it leaves, and the run of the whole pipeline.
-/
module

public import proofs.«01_k».proof.Proof.Data

public import Idealize.ShloMosaic.Lib.Claim

@[expose] public section

-- the long axes ask for deep recursion
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel held (Rl m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (∃ X, ⌜ScaleMeets m c t X⌝ ∗ owns (c : Thread nD τ) (ms0_7 t) fullShare X))

/-- The scale window at a later point holds the rows settled by the point before. -/
theorem finds_meets (c : Dev nD) (t : Fin cfg0.N) (h : t.val ≠ 0) (Y : S24x512.Idx → Elt F .f32)
    (hY : ((dats m 0 c).toRRel held (Rl m c)).Finds 7 t Y) : ScaleMeets m c (prev t) Y := by
  rcases (RDat.finds_of_pos _ (w := 7) (t := t) rfl h Y).mp hY with hf | hl
  · have := (flush0_7 (prev t)).mp hf
    have ht : t.val < 240 := lt_of_lt_of_eq t.isLt N_0
    rw [prev_val] at this; omega
  · exact Dat.toRRel_leaves (dats m 0 c) (w := 7) rfl hl

/-- Nothing is settled before the first point. -/
theorem meets_next (c : Dev nD) (t : Fin cfg0.N) (h : ¬t.val % 10 = 0) {Y : S24x512.Idx → Elt F .f32}
    (hY : ScaleMeets m c (prev t) Y) : ScaleMeets m c t Y := fun s z hs h0 hz =>
  hY s z (by rw [prev_val]; rcases Nat.lt_or_eq_of_le hs with h' | h'; · omega
             · rw [h'] at h0; exact absurd h0 h) h0 hz

/-- The row of the scale window that `t` writes, when its branch is taken. -/
theorem off_at (t : Fin cfg0.N) : k0_off1 (grid0.coords t) = ![t.val / 10, 0] := by
  have ht : t.val < 240 := lt_of_lt_of_eq t.isLt N_0
  have e0 : (grid0.coords t 0).val = t.val / 10 % 24 := Pipeline.Grid.coords_val t 0 (by decide) rfl
  rw [k0_off1_eq, e0, Nat.mod_eq_of_lt (by omega)]

/-- A point that starts a block row settles its own row and keeps the rows settled before. -/
theorem meets_write (c : Dev nD) (t : Fin cfg0.N) (h : t.val % 10 = 0) {Y X : S24x512.Idx → Elt F .f32}
    (hc0 : cond0_0 (grid0.coords t))
    (hY : ((dats m 0 c).toRRel held (Rl m c)).Finds 7 t Y)
    (hX : (∀ y : S1x512.Idx, X ((Rect.unit (s := S24x512) (k0_off1 (grid0.coords t)) S1x512.size (k0_off1_inb (grid0.coords t) hc0)).idx y) = k0_pay3 (scaleCol (iblk m c 0 t)) y)
      ∧ ∀ z, z ∉ (Rect.unit (s := S24x512) (k0_off1 (grid0.coords t)) S1x512.size (k0_off1_inb (grid0.coords t) hc0)).set → X z = Y z) :
    ScaleMeets m c t X := fun s z hs h0 hz => by
  have ht : t.val < 240 := lt_of_lt_of_eq t.isLt N_0
  have ho0 : k0_off1 (grid0.coords t) 0 = t.val / 10 := by rw [off_at]; rfl
  have ho1 : k0_off1 (grid0.coords t) 1 = 0 := by rw [off_at]; rfl
  by_cases hst : s = t
  · subst hst
    have e : z = (Rect.unit (s := S24x512) (k0_off1 (grid0.coords s)) S1x512.size (k0_off1_inb (grid0.coords s) hc0)).idx
        (Shape.pair (d := ![1, 512]) ⟨0, Nat.one_pos⟩ (z 1)) := by
      refine Shape.idx_ext₂ ?_ ?_
      · show (z 0).val = k0_off1 (grid0.coords s) 0 + 1 * 0
        rw [ho0, hz, Nat.mul_zero, Nat.add_zero]
      · show (z 1).val = k0_off1 (grid0.coords s) 1 + 1 * (z 1).val
        rw [ho1]; omega
    unfold scaleAt
    rw [st_self h]
    exact (congrArg X e).trans (hX.1 _)
  · have hlt : s.val < t.val := lt_of_le_of_ne hs fun h' => hst (Fin.ext h')
    rw [hX.2 z fun hm => by
      have := (Rect.mem_set_unit.mp hm 0).1
      rw [ho0] at this
      omega]
    exact finds_meets m c t (by omega) Y hY s z (by rw [prev_val]; omega) h0 hz

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [Phi_eq, Phi_eq, PhiAt_succ]
  rw [show (dats m 0 c).leaves 0 t = owns (c : Thread nD τ) (ms0_0 t) fullShare ((dats m 0 c).after 0 t) from by
    unfold Dat.leaves; rw [liveAt0_0 t], after0_0]
  rw [show (dats m 0 c).leaves 1 t = owns (c : Thread nD τ) (ms0_1 t) fullShare ((dats m 0 c).after 1 t) from by
    unfold Dat.leaves; rw [liveAt0_1 t], after0_1]
  rw [show (dats m 0 c).leaves 2 t = owns (c : Thread nD τ) (ms0_2 t) fullShare ((dats m 0 c).after 2 t) from by
    unfold Dat.leaves; rw [liveAt0_2 t], after0_2]
  rw [show (dats m 0 c).leaves 3 t = owns (c : Thread nD τ) (ms0_3 t) fullShare ((dats m 0 c).after 3 t) from by
    unfold Dat.leaves; rw [liveAt0_3 t], after0_3]
  rw [show (dats m 0 c).leaves 4 t = owns (c : Thread nD τ) (ms0_4 t) fullShare ((dats m 0 c).after 4 t) from by
    unfold Dat.leaves; rw [liveAt0_4 t], after0_4]
  rw [show (dats m 0 c).leaves 5 t = owns (c : Thread nD τ) (ms0_5 t) fullShare ((dats m 0 c).after 5 t) from by
    unfold Dat.leaves; rw [liveAt0_5 t], after0_5]
  by_cases h0 : t.val % 10 = 0
  · rw [show (dats m 0 c).leaves 6 t = owns (c : Thread nD τ) (ms0_6 t) fullShare ((dats m 0 c).after 6 t) from by
      unfold Dat.leaves; rw [liveAt0_6 h0], after0_6]
    have hS : scr m c t = iprop(iprop(owns (c : Thread nD τ) scM0_0 fullShare (tBlk (iblk m c 0 t) (iblk m c 3 t))
        ∗ owns (c : Thread nD τ) scM0_1 fullShare (k0_pay2 (scaleCol (iblk m c 0 t)))) ∗ (∃ r, prngReg c r)) := by
      unfold scr tAt scaleAt; rw [st_self h0]
    have hy : yAt m c t = yBlk (iblk m c 0 t) (iblk m c 1 t) (iblk m c 2 t) (iblk m c 3 t) (iblk m c 4 t) := by
      unfold yAt codesAt tAt scaleAt; rw [st_self h0]
    have hcd : codesAt m c t = codesBlk (iblk m c 0 t) := by unfold codesAt; rw [st_self h0]
    rw [hS, hy, hcd]
    refine (sep_mono ((PhiAt_weak m c _).trans (Entails.of_eq (PhiA0_eq c))) .rfl).trans ?_
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply ((kernelRunA c (grid0.coords t) _ _ _ _ _ _ _ _ _ _ _ _ _ _ _ _ _ _ _ _ ((hcond0_0 t).mpr h0) (iblk m c 0 t) (iblk m c 1 t) (iblk m c 2 t) (iblk m c 3 t) (iblk m c 4 t) Y) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    isplitl [HS1]; · iexact HS1
    iintro ⟨H0, H1, H2, H3, H4, H5, H6, ⟨%X, %hX, H7⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists X; isplitr; · ipureintro; exact meets_write m c t h0 ((hcond0_0 t).mpr h0) hY hX
    iexact H7
  · have ht0 : t.val ≠ 0 := fun h => h0 (by rw [h])
    have hb6 : ∀ d, (dats m 0 c).before 6 t d = codesAt m c t := fun d => before0_6 m c d (t.val % 10 - 1) t (by omega)
    have hl6 : owns (c : Thread nD τ) (ms0_6 t) fullShare (codesAt m c t) ⊢ (dats m 0 c).leaves 6 t := by
      unfold Dat.leaves; rw [idleAt0_6 h0]
      cases hfl : (cfg0.win 6).flush t
      · iintro H
        iexists (codesAt m c t); rw [hb6]; iexact H
      · rw [show (owns (c : Thread nD τ) (ms0_6 t) fullShare (codesAt m c t) : sProp 𝕄) = owns (c : Thread nD τ) (ms0_6 t) fullShare ((dats m 0 c).after 6 t) from by rw [after0_6]]
    have hS : scr m c (prev t) = scr m c t := by unfold scr tAt scaleAt; rw [st_prev h0]
    rw [PhiAt_castSucc m c t ht0, hS]
    simp only [hb6]
    unfold scr
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    iapply ((kernelRunB c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (codesAt m c t) Y (tAt m c t) (k0_pay2 (scaleAt m c t))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iexists Y; isplitr; · ipureintro; exact meets_next m c t h0 (finds_meets m c t ht0 Y hY)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationRel (dats (F := F) m 0 c) (defs₀ (F := F)) Variants.none () Set.univ held (Rl m c) := fun t => by
  rw [bigSep_W0, bigSep_W0, defs₀_row]
  exact triple_restated (sound_body m c t) rfl .rfl fun _ => .rfl

/-! ## The run -/

-- the run's implicit arguments are found by unifying its conclusion with this one, which takes unfolding plain
-- definitions in a metavariable's type
set_option backward.isDefEq.respectTransparency.types false in
/-- Every weakly fair execution of @main terminates with the arrays as the proof data say and every semaphore counter at zero. -/
theorem run_main_quiescent : θ_run defs (onTc (τ := τ) (main (F := F))) (s₀ m ρ) (fun r => (RDat.FramePost (cfgs 0) (fun c => (dats m 0 c).toRRel held (Rl m c)) (V m)) r ∧ r.2.sem = fun _ => 0) :=
  RDat.θ_run_frame_track (Q' := _) cfgs (0 : Fin 1) launch0 defs₀ Variants.none (fun c => (dats m 0 c).toRRel held (Rl m c)) m ρ main
    (hbody := fun c => (body_obligation m c).toRRel) (hshare := fun c => (dats m 0 c).share_full fun _ => rfl)
    (howed := fun _ _ => rfl) (V := V m) (hmain := hmain m Variants.none) (hA := A_eq m)
    (hin := fun c => by rw [Dat.toRRel_Φ, Phi_eq, PhiAt_zero m c 0 rfl])
    (hout := fun c => by rw [Dat.toRRel_Φ, Phi_eq]; exact PhiAt_weak m c _)

/-- The whole kernel runs, and its arrays end as the contents say. -/
theorem run_main : θ_run defs (onTc (τ := τ) (main (F := F))) (s₀ m ρ) (RDat.FramePost (cfgs 0) (fun c => (dats m 0 c).toRRel held (Rl m c)) (V m)) :=
  (θ_run defs _ _).mono (fun _ h => h.1) (run_main_quiescent m ρ)

/-- Any relational proof data over the arrays as the region finds them give the argument arrays back unchanged. -/
theorem frame_of_rdat (rdat : (c : Dev nD) → RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (RDat.FramePost.arr_in h c 4 rfl).trans ((hA c 4).trans (V_main_arg4 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rdat m ρ (fun c => (dats m 0 c).toRRel held (Rl m c)) (A_eq m) (run_main m ρ)

/-- The kernel's frame: it terminates, leaves its arguments as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Same.lean ====
/-
  The kernel and the kernel printed for extended reals are one program, since nothing was rewritten: the frame of the one, which
  holds whatever the floats are, is the frame of the other.
-/
module

public import proofs.«01_k».proof.Proof.Body
public import proofs.«01_k».proof.Proof.Gen.Kernel

@[expose] public section

set_option maxRecDepth 16384

noncomputable section

namespace Cert.Same

open Idealize.ShloMosaic Idealize.ShloMosaic.TcCoe Idealize.SL.Sem

variable {F : FTy → Type} [FloatOps F]

/-- The first part of the branch of the body is the same in both. -/
theorem part1_eq : @Cert.Kernel.k0_part1 F _ Cert.Kernel.Gen.facts = @Cert.KernelIdeal.k0_part1 F _ Cert.KernelIdeal.Gen.facts := rfl

/-- The second part of the branch of the body is the same in both. -/
theorem part2_eq : @Cert.Kernel.k0_part2 F _ Cert.Kernel.Gen.facts = @Cert.KernelIdeal.k0_part2 F _ Cert.KernelIdeal.Gen.facts := rfl

/-- The body is the same in both. -/
theorem body_eq : @Cert.Kernel.cc0_fp8_linear_lora F _ Cert.Kernel.Gen.facts = @Cert.KernelIdeal.cc0_fp8_linear_lora F _ Cert.KernelIdeal.Gen.facts := rfl

/-- The table of bodies is the same in both. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- The whole table, with the pipeline's labels, is the same in both. -/
theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_eq

/-- The host programs are the same in both. -/
theorem main_eq : (Cert.Kernel.main (F := F)) = (Cert.KernelIdeal.main (F := F)) := rfl

/-- The kernel's frame, whatever the floats are: it terminates, leaves its arguments as they were, and every semaphore counter at
    zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  Eq.mpr (congrArg (fun D => θ_run D (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) defs_eq) (Cert.KernelIdeal.Hand.frame m g)

end Cert.Same
-- ==== Proof.Exponent.lean ====
/-
  The exponent of a scale, on extended reals. The kernel finds the exponent field of a quotient `q` by a binary search over the
  field's eight bits and builds powers of two from their bit patterns; the reference takes `floor (log q / log 2) + 1` and `exp2`.
  For `0 ≤ q < 2 ^ 120` the two give the same power of two, and the same reciprocal.
-/
module

public import Idealize.ShloMosaic.Lib.Pointwise
public import Mathlib.Analysis.SpecialFunctions.Log.Basic
public import Mathlib.Analysis.SpecialFunctions.Pow.Real

@[expose] public section

noncomputable section

namespace Cert.Scale

open Idealize.ShloMosaic

/-! ### The two programs' scalar terms -/

/-- A word moved to the place of the exponent field. -/
def shl (b : BitVec 32) : BitVec 32 := IntOp.shli .vector b 23#32

/-- One step of the kernel's search: bit `b` is added to the field `f` unless that makes the power of two exceed `q`. -/
def step (q : EReal) (b f : BitVec 32) : BitVec 32 :=
  Scalar.select (Ideal.cmp .olt q (Ideal.ofBits .f32 (shl (IntOp.addi f b)))) f (IntOp.addi f b)

/-- The first five steps of the search. -/
def high (q : EReal) : BitVec 32 := step q 8#32 (step q 16#32 (step q 32#32 (step q 64#32 (step q 128#32 0#32))))

/-- The field of `q` that the kernel's search finds. -/
def field (q : EReal) : BitVec 32 := step q 1#32 (step q 2#32 (step q 4#32 (high q)))

/-- The kernel's exponent: 0 where the field is 0, otherwise the field minus 126. -/
def expo (q : EReal) : BitVec 32 := Scalar.select (IntOp.cmpi .eq (field q) 0#32) 0#32 (IntOp.subi (field q) 126#32)

/-- The kernel's scale: the power of two built from its bit pattern. -/
def scaleK (q : EReal) : EReal := Ideal.ofBits .f32 (shl (IntOp.addi (expo q) 127#32))

/-- The kernel's reciprocal of the scale, built in the same way. -/
def invK (q : EReal) : EReal := Ideal.ofBits .f32 (shl (IntOp.addi (IntOp.subi 0#32 (expo q)) 127#32))

/-- The reference's exponent. -/
def expoR (q : EReal) : EReal :=
  Scalar.select (Ideal.cmp .olt q (Ideal.ofBits .f32 0x00800000#32)) 0
    (Ideal.liftRound Int.floor (Ideal.div (Ideal.log q) (Ideal.log (Ideal.ofBits .f32 0x40000000#32))) + 1)

/-- The reference's scale. -/
def scaleR (q : EReal) : EReal := Ideal.exp2 (expoR q)

/-- The reference's reciprocal of the scale. -/
def invR (q : EReal) : EReal := Ideal.exp2 (0 - expoR q)

/-! ### Powers of two from patterns -/

/-- The value of a 32-bit pattern, at its literal width. -/
theorem ofBits_f32 (b : BitVec 32) : Ideal.ofBits .f32 b = Ideal.ieee 8 23 b := rfl

/-- The kernel's shift by 23 places is the shift of words. -/
theorem shl_eq (b : BitVec 32) : shl b = b <<< 23 := by
  unfold shl IntOp.shli
  rw [if_pos (by decide)]
  rfl

/-- A pattern without sign and fraction, with exponent field `n`, denotes `2 ^ (n - 127)`. -/
theorem ieee_pow (b : BitVec 32) (n : ℕ) (h1 : 1 ≤ n) (h2 : n ≤ 254) (hneg : (b.extractLsb' (8 + 23) 1 == 1#1) = false)
    (hex : (b.extractLsb' 23 8).toNat = n) (hfr : (b.extractLsb' 0 23).toNat = 0) :
    Ideal.ieee 8 23 b = (((2 : ℝ) ^ ((n : ℤ) - 127) : ℝ) : EReal) := by
  have hA : ¬ n = 2 ^ 8 - 1 := by omega
  have hB : ¬ n = 0 := by omega
  have hz : ((n : ℤ) - 127) = 23 + ((n : ℤ) - (2 ^ (8 - 1) - 1) - (23 : ℕ)) := by norm_num
  unfold Ideal.ieee
  simp only [hneg, hex, hfr, if_neg hA, if_neg hB]
  rw [hz, zpow_add₀ (by norm_num : (2 : ℝ) ≠ 0)]
  norm_num

/-- The bits of a pattern with exponent field `n` and nothing else. -/
theorem pat_bits : ∀ n < 255, ((BitVec.ofNat 32 n <<< 23).extractLsb' (8 + 23) 1 == 1#1) = false
    ∧ ((BitVec.ofNat 32 n <<< 23).extractLsb' 23 8).toNat = n ∧ ((BitVec.ofNat 32 n <<< 23).extractLsb' 0 23).toNat = 0 := by
  decide

/-- A pattern with exponent field `n`, `1 ≤ n ≤ 254`, and no fraction denotes `2 ^ (n - 127)`. -/
theorem pat (n : ℕ) (h1 : 1 ≤ n) (h2 : n ≤ 254) :
    Ideal.ofBits .f32 (BitVec.ofNat 32 n <<< 23) = (((2 : ℝ) ^ ((n : ℤ) - 127) : ℝ) : EReal) := by
  obtain ⟨ha, hb, hc⟩ := pat_bits n (by omega)
  exact (ofBits_f32 _).trans (ieee_pow _ n h1 h2 ha hb hc)

/-- The pattern with exponent field 255 and no fraction denotes `⊤`. -/
theorem pat_top : Ideal.ofBits .f32 (BitVec.ofNat 32 255 <<< 23) = ⊤ := by
  have hneg : ((BitVec.ofNat 32 255 <<< 23).extractLsb' (8 + 23) 1 == 1#1) = false := by decide
  have hex : ((BitVec.ofNat 32 255 <<< 23).extractLsb' 23 8).toNat = 255 := by decide
  have hfr : ((BitVec.ofNat 32 255 <<< 23).extractLsb' 0 23).toNat = 0 := by decide
  rw [ofBits_f32]
  unfold Ideal.ieee
  simp only [hneg, hex, hfr]
  rfl

/-! ### The search -/

/-- The search on natural numbers, for the field `k` to be found. -/
def stepN (k b f : ℕ) : ℕ := if k < f + b then f else f + b

/-- `k` is the exponent field of the real number `r`. -/
structure IsField (r : ℝ) (k : ℕ) : Prop where
  /-- the power of two at `k` does not exceed `r`, except at field 0 -/
  lower : 1 ≤ k → (2 : ℝ) ^ ((k : ℤ) - 127) ≤ r
  /-- the next power of two exceeds `r` -/
  upper : r < (2 : ℝ) ^ ((k : ℤ) + 1 - 127)
  /-- the field is at most 246 -/
  le : k ≤ 246

/-- One step of the kernel's search is one step on natural numbers. -/
theorem step_eq {r : ℝ} {k : ℕ} (h : IsField r k) (b f : ℕ) (hb : 1 ≤ b) (hf : f + b ≤ 255) :
    step r (BitVec.ofNat 32 b) (BitVec.ofNat 32 f) = BitVec.ofNat 32 (stepN k b f) := by
  unfold step stepN
  rw [shl_eq, show IntOp.addi (BitVec.ofNat 32 f) (BitVec.ofNat 32 b) = BitVec.ofNat 32 (f + b) from (BitVec.ofNat_add f b).symm]
  have hlt : ((r : EReal) < Ideal.ofBits .f32 (BitVec.ofNat 32 (f + b) <<< 23)) ↔ k < f + b := by
    rcases Nat.lt_or_ge (f + b) 255 with h255 | h255
    · rw [pat _ (by omega) (by omega), EReal.coe_lt_coe_iff]
      constructor
      · intro hr
        by_contra hk
        have h1 := h.lower (by omega)
        have h2 : (2 : ℝ) ^ (((f + b : ℕ) : ℤ) - 127) ≤ (2 : ℝ) ^ ((k : ℤ) - 127) :=
          zpow_le_zpow_right₀ (by norm_num) (by omega)
        linarith
      · intro hk
        have h1 := h.upper
        have h2 : (2 : ℝ) ^ ((k : ℤ) + 1 - 127) ≤ (2 : ℝ) ^ (((f + b : ℕ) : ℤ) - 127) :=
          zpow_le_zpow_right₀ (by norm_num) (by omega)
        linarith
    · have : f + b = 255 := by omega
      rw [this, pat_top]
      have := h.le
      exact ⟨fun _ => by omega, fun _ => EReal.coe_lt_top r⟩
  by_cases hk : k < f + b
  · rw [if_pos hk]
    have : Ideal.cmp .olt (r : EReal) (Ideal.ofBits .f32 (BitVec.ofNat 32 (f + b) <<< 23)) = 1#1 := by
      simp only [Ideal.cmp, decide_eq_true (hlt.2 hk)]; rfl
    rw [this]; rfl
  · rw [if_neg hk]
    have : Ideal.cmp .olt (r : EReal) (Ideal.ofBits .f32 (BitVec.ofNat 32 (f + b) <<< 23)) = 0#1 := by
      simp only [Ideal.cmp, decide_eq_false (fun h => hk (hlt.1 h))]; rfl
    rw [this]; rfl

/-- A step adds at most its bit. -/
theorem stepN_le (k b f : ℕ) : stepN k b f ≤ f + b := by unfold stepN; split <;> omega

/-- The search on natural numbers finds every field. -/
theorem search_nat : ∀ k < 256, stepN k 1 (stepN k 2 (stepN k 4 (stepN k 8 (stepN k 16 (stepN k 32 (stepN k 64
    (stepN k 128 0))))))) = k := by decide

/-- The kernel's search finds the exponent field. -/
theorem field_eq {r : ℝ} {k : ℕ} (h : IsField r k) : field r = BitVec.ofNat 32 k := by
  have a1 := stepN_le k 128 0
  have a2 := stepN_le k 64 (stepN k 128 0)
  have a3 := stepN_le k 32 (stepN k 64 (stepN k 128 0))
  have a4 := stepN_le k 16 (stepN k 32 (stepN k 64 (stepN k 128 0)))
  have a5 := stepN_le k 8 (stepN k 16 (stepN k 32 (stepN k 64 (stepN k 128 0))))
  have a6 := stepN_le k 4 (stepN k 8 (stepN k 16 (stepN k 32 (stepN k 64 (stepN k 128 0)))))
  have a7 := stepN_le k 2 (stepN k 4 (stepN k 8 (stepN k 16 (stepN k 32 (stepN k 64 (stepN k 128 0))))))
  unfold field high
  rw [step_eq h 128 0 (by omega) (by omega), step_eq h 64 _ (by omega) (by omega), step_eq h 32 _ (by omega) (by omega),
    step_eq h 16 _ (by omega) (by omega), step_eq h 8 _ (by omega) (by omega), step_eq h 4 _ (by omega) (by omega),
    step_eq h 2 _ (by omega) (by omega), step_eq h 1 _ (by omega) (by omega),
    search_nat k (by have := h.le; omega)]

/-- Every real number in `[0, 2 ^ 120)` has a field. -/
theorem exists_field (r : ℝ) (h0 : 0 ≤ r) (h1 : r < (2 : ℝ) ^ (120 : ℤ)) : ∃ k, IsField r k := by
  by_cases hr : r < (2 : ℝ) ^ (-126 : ℤ)
  · exact ⟨0, ⟨fun h => absurd h (by omega), by simpa using hr, by omega⟩⟩
  · have hpos : 0 < r := lt_of_lt_of_le (by positivity) (not_lt.1 hr)
    obtain ⟨n, hn1, hn2⟩ := exists_mem_Ico_zpow hpos (by norm_num : (1 : ℝ) < 2)
    have hlo : -126 ≤ n := by
      by_contra hc
      exact hr (lt_of_lt_of_le hn2 (zpow_le_zpow_right₀ (by norm_num) (by omega)))
    have hhi : n < 120 := by
      by_contra hc
      exact absurd (lt_of_lt_of_le h1 (zpow_le_zpow_right₀ (by norm_num) (by omega : (120 : ℤ) ≤ n))) (not_lt.2 hn1)
    refine ⟨(n + 127).toNat, ⟨fun _ => ?_, ?_, by omega⟩⟩
    · have : (((n + 127).toNat : ℤ) - 127) = n := by omega
      rw [this]; exact hn1
    · have : (((n + 127).toNat : ℤ) + 1 - 127) = n + 1 := by omega
      rw [this]; exact hn2

/-! ### The reference's exponent -/

/-- The smallest normal number. -/
theorem tiny : Ideal.ofBits .f32 0x00800000#32 = (((2 : ℝ) ^ (-126 : ℤ) : ℝ) : EReal) := by
  have := pat 1 (by omega) (by omega)
  exact this

/-- Two. -/
theorem two : Ideal.ofBits .f32 0x40000000#32 = ((2 : ℝ) : EReal) := by
  have := pat 128 (by omega) (by omega)
  refine Eq.trans this ?_
  norm_num

/-- The exponent belonging to the field `k`. -/
def expoZ (k : ℕ) : ℤ := if k = 0 then 0 else (k : ℤ) - 126

/-- The reference's exponent of a real number with field `k`. -/
theorem expoR_eq {r : ℝ} {k : ℕ} (h : IsField r k) : expoR r = (((expoZ k : ℤ) : ℝ) : EReal) := by
  unfold expoR expoZ
  rw [tiny]
  by_cases hk : k = 0
  · subst hk
    have h1 := h.upper
    have : Ideal.cmp .olt (r : EReal) (((2 : ℝ) ^ (-126 : ℤ) : ℝ) : EReal) = 1#1 := by
      have : (r : EReal) < (((2 : ℝ) ^ (-126 : ℤ) : ℝ) : EReal) := by
        rw [EReal.coe_lt_coe_iff]; simpa using h1
      simp only [Ideal.cmp, decide_eq_true this]; rfl
    rw [this]
    simp [Scalar.select]
  · have h0 := h.lower (by omega)
    have h1 := h.upper
    have hpos : 0 < r := lt_of_lt_of_le (by positivity) h0
    have : Ideal.cmp .olt (r : EReal) (((2 : ℝ) ^ (-126 : ℤ) : ℝ) : EReal) = 0#1 := by
      have : ¬ (r : EReal) < (((2 : ℝ) ^ (-126 : ℤ) : ℝ) : EReal) := by
        rw [EReal.coe_lt_coe_iff, not_lt]
        exact le_trans (zpow_le_zpow_right₀ (by norm_num) (by omega)) h0
      simp only [Ideal.cmp, decide_eq_false this]; rfl
    rw [this, two]
    have hl2 : (0 : ℝ) < Real.log 2 := Real.log_pos (by norm_num)
    have hfl : ⌊Real.log r * (1 / Real.log 2)⌋ = (k : ℤ) - 127 := by
      rw [Int.floor_eq_iff, mul_one_div]
      constructor
      · rw [le_div_iff₀ hl2, ← Real.log_zpow]
        exact Real.log_le_log (by positivity) h0
      · rw [div_lt_iff₀ hl2]
        have : (((k : ℤ) - 127 : ℤ) : ℝ) + 1 = (((k : ℤ) + 1 - 127 : ℤ) : ℝ) := by push_cast; ring
        rw [this, ← Real.log_zpow]
        exact Real.log_lt_log hpos h1
    rw [Ideal.log_coe, Ideal.log_coe, if_neg (by linarith), if_neg (by norm_num), Ideal.div_coe (ne_of_gt hl2),
      ← EReal.coe_mul, Ideal.liftRound_coe, hfl, if_neg hk]
    show ((((k : ℤ) - 127 : ℤ) : ℝ) : EReal) + 1 = _
    rw [← EReal.coe_one, ← EReal.coe_add]
    congr 1
    push_cast
    ring

/-- The kernel's exponent, plus the bias, as a word. -/
theorem expo_bias : ∀ k < 247, (IntOp.addi (Scalar.select (IntOp.cmpi .eq (BitVec.ofNat 32 k) 0#32) 0#32 (IntOp.subi (BitVec.ofNat 32 k) 126#32)) 127#32
    = BitVec.ofNat 32 (expoZ k + 127).toNat) ∧
    (IntOp.addi (IntOp.subi 0#32 (Scalar.select (IntOp.cmpi .eq (BitVec.ofNat 32 k) 0#32) 0#32
      (IntOp.subi (BitVec.ofNat 32 k) 126#32))) 127#32
    = BitVec.ofNat 32 (127 - expoZ k).toNat) := by decide

/-- `exp2` of an integer is the power of two. -/
theorem exp2_int (n : ℤ) : Ideal.exp2 (((n : ℤ) : ℝ) : EReal) = (((2 : ℝ) ^ n : ℝ) : EReal) := by
  rw [Ideal.exp2_coe]
  congr 1
  exact Real.rpow_intCast 2 n

/-- The kernel's scale is the reference's. -/
theorem scaleK_eq (r : ℝ) (h0 : 0 ≤ r) (h1 : r < (2 : ℝ) ^ (120 : ℤ)) : scaleK r = scaleR r := by
  obtain ⟨k, hk⟩ := exists_field r h0 h1
  have hle := hk.le
  unfold scaleK scaleR expo
  rw [field_eq hk, expoR_eq hk, exp2_int, (expo_bias k (by omega)).1, shl_eq]
  have hz : -125 ≤ expoZ k ∧ expoZ k ≤ 120 := by unfold expoZ; split <;> omega
  rw [pat _ (by omega) (by omega)]
  congr 2
  omega

/-- The kernel's reciprocal of the scale is the reference's. -/
theorem invK_eq (r : ℝ) (h0 : 0 ≤ r) (h1 : r < (2 : ℝ) ^ (120 : ℤ)) : invK r = invR r := by
  obtain ⟨k, hk⟩ := exists_field r h0 h1
  have hle := hk.le
  unfold invK invR expo
  rw [field_eq hk, expoR_eq hk, (expo_bias k (by omega)).2, shl_eq]
  have hz : -125 ≤ expoZ k ∧ expoZ k ≤ 120 := by unfold expoZ; split <;> omega
  have hn : (0 : EReal) - (((expoZ k : ℤ) : ℝ) : EReal) = (((-expoZ k : ℤ) : ℝ) : EReal) := by
    rw [zero_sub, ← EReal.coe_neg]; congr 1; push_cast; rfl
  rw [hn, exp2_int, pat _ (by omega) (by omega)]
  congr 2
  omega

end Cert.Scale
-- ==== Proof.RowMax.lean ====
/-
  The greatest magnitude of a row, on extended reals: a maximum along the second axis of a matrix is the fold of `max` over the
  row, and for a row of finite numbers of the bf16 range the quotient by 448 is a real number in `[0, 2 ^ 120)`.
-/
module

public import proofs.«01_k».proof.Proof.Exponent
public import Idealize.ShloMosaic.PureOps.Reduce
public import Idealize.ShloMosaic.PureOps.Ideal.Laws

@[expose] public section

noncomputable section

namespace Cert.Scale

open Idealize.ShloMosaic

/-- A maximum along the second axis, at row `r`, is the fold of `max` over the row. -/
theorem rowMax_apply {n0 n1 : ℕ} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (r : Fin n0) :
    multiReduction .maximumf [1] ⟨1, ![n0]⟩ v acc h hφ hacc (ix1 r)
      = Finset.fold max (Ideal.ofBits φ acc : EReal) (fun k : Fin n1 => v (ix2 r k)) Finset.univ := by
  classical
  rw [multiReduction_maximumf_eq_fold, h.fold_filter_drop_single]
  have hl : (v ∘ h.lift (ix1 r)) = fun k : Fin n1 => v (ix2 r k) := by
    funext k
    refine congrArg v ?_
    funext a
    apply Fin.ext
    match a with
    | ⟨0, _⟩ => simp [Shape.Reduces.lift_val, Shape.Reduces.liftVal]
    | ⟨1, _⟩ => simp [Shape.Reduces.lift_val, Shape.Reduces.liftVal]
  rw [hl]
  rfl

/-- The absolute value of an extended real. -/
theorem absf_eq {φ : FTy} (x : Ideal φ) : (FloatOps.absf x : Ideal φ) = max (x : EReal) (-(x : EReal)) := rfl

/-- The greatest magnitude of a row, times the f32 constant nearest 1/448. -/
def quo (X : Fin 2560 → EReal) : EReal :=
  Finset.fold max ⊥ (fun k => max (X k) (-X k)) Finset.univ * Ideal.ofBits .f32 0x3B124925#32

/-- The bf16 pattern of minus infinity. -/
theorem bot_bf16 : (Ideal.ofBits .bf16 0xFF80#16 : EReal) = ⊥ := by
  have h1 : ((0xFF80#16).extractLsb' (8 + 7) 1 == 1#1) = true := by decide
  have h2 : ((0xFF80#16).extractLsb' 7 8).toNat = 2 ^ 8 - 1 := by decide
  have h3 : ((0xFF80#16).extractLsb' 0 7).toNat = 0 := by decide
  show Ideal.ieee 8 7 (0xFF80#16) = ⊥
  unfold Ideal.ieee
  simp only [h1, h2, h3]
  rfl

/-- The f32 pattern of minus infinity. -/
theorem bot_f32 : (Ideal.ofBits .f32 0xFF800000#32 : EReal) = ⊥ := by
  have h1 : ((0xFF800000#32).extractLsb' (8 + 23) 1 == 1#1) = true := by decide
  have h2 : ((0xFF800000#32).extractLsb' 23 8).toNat = 2 ^ 8 - 1 := by decide
  have h3 : ((0xFF800000#32).extractLsb' 0 23).toNat = 0 := by decide
  rw [ofBits_f32]
  unfold Ideal.ieee
  simp only [h1, h2, h3]
  rfl

/-- The factor 1/448 is a real number between 0 and `2 ^ -8`. -/
theorem factor : ∃ a : ℝ, (Ideal.ofBits .f32 0x3B124925#32 : EReal) = a ∧ 0 ≤ a ∧ a ≤ (2 : ℝ) ^ (-8 : ℤ) := by
  have h1 : ((0x3B124925#32).extractLsb' (8 + 23) 1 == 1#1) = false := by decide
  have h2 : ((0x3B124925#32).extractLsb' 23 8).toNat = 118 := by decide
  have h3 : ((0x3B124925#32).extractLsb' 0 23).toNat = 1198373 := by decide
  rw [ofBits_f32]
  unfold Ideal.ieee
  simp only [h1, h2, h3]
  refine ⟨_, rfl, ?_, ?_⟩
  · norm_num
  · norm_num

/-- The greatest finite bf16 number. -/
def big : ℝ := 255 * (2 : ℝ) ^ (120 : ℤ)

/-- The pattern of the greatest finite bf16 number. -/
theorem big_bf16 : (Ideal.ofBits .bf16 0x7F7F#16 : EReal) = (big : EReal) := by
  have h1 : ((0x7F7F#16).extractLsb' (8 + 7) 1 == 1#1) = false := by decide
  have h2 : ((0x7F7F#16).extractLsb' 7 8).toNat = 254 := by decide
  have h3 : ((0x7F7F#16).extractLsb' 0 7).toNat = 127 := by decide
  show Ideal.ieee 8 7 (0x7F7F#16) = _
  unfold Ideal.ieee big
  simp only [h1, h2, h3]
  norm_num

/-- For a row of magnitudes up to the greatest finite bf16 number, the quotient is a real number in `[0, 2 ^ 120)`. -/
theorem quo_real (X : Fin 2560 → EReal) (h : ∀ k, max (X k) (-X k) ≤ (big : EReal)) :
    ∃ r : ℝ, quo X = r ∧ 0 ≤ r ∧ r < (2 : ℝ) ^ (120 : ℤ) := by
  have hle : Finset.fold max ⊥ (fun k => max (X k) (-X k)) Finset.univ ≤ (big : EReal) :=
    Finset.fold_max_le _ |>.2 ⟨bot_le, fun k _ => h k⟩
  have h0 : (0 : EReal) ≤ max (X 0) (-X 0) := by
    rcases le_total 0 (X 0) with hx | hx
    · exact le_trans hx (le_max_left _ _)
    · exact le_trans (by rw [← neg_zero]; exact EReal.neg_le_neg_iff.2 hx) (le_max_right _ _)
  have hge : (0 : EReal) ≤ Finset.fold max ⊥ (fun k => max (X k) (-X k)) Finset.univ :=
    (Finset.le_fold_max _).2 (.inr ⟨0, Finset.mem_univ _, h0⟩)
  obtain ⟨a, ha, ha0, ha1⟩ := factor
  unfold quo
  rw [ha]
  generalize Finset.fold max ⊥ (fun k => max (X k) (-X k)) Finset.univ = M at hle hge
  induction M with
  | bot => exact absurd hge (by simp)
  | top => exact absurd hle (not_le.2 (EReal.coe_lt_top _))
  | coe M =>
    rw [EReal.coe_le_coe_iff] at hle
    have hge' : 0 ≤ M := by exact_mod_cast hge
    refine ⟨M * a, (EReal.coe_mul _ _).symm, mul_nonneg hge' ha0, ?_⟩
    calc M * a ≤ big * (2 : ℝ) ^ (-8 : ℤ) := mul_le_mul hle ha1 ha0 (le_trans hge' hle)
      _ < (2 : ℝ) ^ (120 : ℤ) := by unfold big; norm_num

end Cert.Scale
-- ==== Proof.Block.lean ====
/-
  What one block computes, entry by entry, on extended reals: the codes, the scales and the adapter product of 512 rows, and the
  1024 output columns of one grid point.
-/
module

public import proofs.«01_k».proof.Proof.Data
public import proofs.«01_k».proof.Proof.RowMax
public import Idealize.ShloMosaic.Lib.Pipeline.Value
public import Idealize.ShloMosaic.Lib.Pointwise

@[expose] public section

set_option maxRecDepth 16384

noncomputable section

namespace Cert.KernelIdeal.Hand

open Cert.KernelIdeal Cert.KernelIdeal.Gen
open Idealize.ShloMosaic

/-- One code: the entry times the reciprocal of its row's scale, clipped to ±448. -/
def codeK (X : Fin 2560 → EReal) (c : Fin 2560) : EReal :=
  min (Ideal.ofBits .f32 0x43E00000#32) (max (Ideal.ofBits .f32 0xC3E00000#32) (X c * Cert.Scale.invK (Cert.Scale.quo X)))

/-- The magnitude of an entry of a block. -/
theorem abs_apply (x0 : Vec Ideal S512x2560 .bf16) (r : Fin 512) (k : Fin 2560) :
    absf (k0_pay6 x0) (ix2 r k) = max (x0 (ix2 r k)) (-x0 (ix2 r k)) := by
  unfold k0_pay6
  rw [shapeCast_self]
  rfl

/-- A column of row maxima, times a factor. -/
theorem scaled_apply (mr : FVec Ideal S512 .bf16) (a : Ideal .f32) (r : Fin 512) (z : Fin 1) :
    mulf (extf .f32 (shapeCast S512x1 mr shapeCasts_S512_S512x1) bitsLt_bf16_f32) (broadcast S512x1 a) (ix2 r z)
      = mr (ix1 r) * a := by
  pointwise

/-- The row maxima of a block. -/
theorem max_apply (x0 : Vec Ideal S512x2560 .bf16) (r : Fin 512) :
    multiReduction (F := Ideal) .maximumf [1] S512 (absf (k0_pay6 x0)) 0xFF80#16 reduces_S512x2560_S512 (.inr rfl) rfl (ix1 r)
      = Finset.fold max ⊥ (fun k => max (x0 (ix2 r k)) (-x0 (ix2 r k))) Finset.univ := by
  rw [← Cert.Scale.bot_bf16]
  refine (Cert.Scale.rowMax_apply (absf (k0_pay6 x0)) 0xFF80#16 reduces_S512x2560_S512 (.inr rfl) rfl r).trans ?_
  exact congrArg (fun f => Finset.fold max (Ideal.ofBits .bf16 0xFF80#16 : EReal) f Finset.univ) (funext fun k => abs_apply x0 r k)

/-- The quotient column of a block. -/
theorem pay7_apply (x0 : Vec Ideal S512x2560 .bf16) (r : Fin 512) (z : Fin 1) :
    k0_pay7 x0 (ix2 r z) = Cert.Scale.quo fun k => x0 (ix2 r k) := by
  have h := max_apply x0 r
  unfold k0_pay7 Cert.Scale.quo
  generalize multiReduction (F := Ideal) .maximumf [1] S512 (absf (k0_pay6 x0)) 0xFF80#16 reduces_S512x2560_S512 (.inr rfl) rfl
    = mr at h
  rw [← h]
  exact scaled_apply mr _ r z

/-- One step of the search on a column is the step at each entry. -/
theorem step_vec (q : FVec Ideal S512x1 .f32) (f : IVec S512x1 32) (b : BitVec 32) (j : S512x1.Idx) :
    select (cmpf .olt q (bitcastToFloat .f32 (shli (addi f (broadcast S512x1 b)) (broadcast S512x1 23#32)))) f
      (addi f (broadcast S512x1 b)) j = Cert.Scale.step (q j) b (f j) := (rfl)

/-- The first five steps of the search, at an entry. -/
theorem pay8_apply (x0 : Vec Ideal S512x2560 .bf16) (j : S512x1.Idx) : k0_pay8 x0 j = Cert.Scale.high (k0_pay7 x0 j) := by
  unfold k0_pay8
  generalize k0_pay7 x0 = q
  exact (step_vec q _ 8#32 j).trans (congrArg (Cert.Scale.step (q j) 8#32) ((step_vec q _ 16#32 j).trans
    (congrArg (Cert.Scale.step (q j) 16#32) ((step_vec q _ 32#32 j).trans (congrArg (Cert.Scale.step (q j) 32#32)
      ((step_vec q _ 64#32 j).trans (congrArg (Cert.Scale.step (q j) 64#32) (step_vec q (broadcast S512x1 0#32) 128#32 j))))))))

/-- The exponent column, at an entry. -/
theorem pay9_apply (q : FVec Ideal S512x1 .f32) (f : IVec S512x1 32) (j : S512x1.Idx) (hf : f j = Cert.Scale.high (q j)) :
    k0_pay9 q f 4#32 j = Cert.Scale.expo (q j) := by
  unfold Cert.Scale.expo Cert.Scale.field
  rw [← hf]
  exact (rfl)
/-- The scale of a block's row. -/
theorem scaleCol_apply (x0 : Vec Ideal S512x2560 .bf16) (r : Fin 512) (z : Fin 1) :
    scaleCol x0 (ix2 r z) = Cert.Scale.scaleK (Cert.Scale.quo fun k => x0 (ix2 r k)) := by
  have h := pay9_apply (k0_pay7 x0) (k0_pay8 x0) (ix2 r z) (pay8_apply x0 _)
  rw [pay7_apply] at h
  unfold Cert.Scale.scaleK scaleCol
  rw [← h]
  generalize k0_pay7 x0 = q
  generalize k0_pay8 x0 = f
  pointwise [k0_pay10, Cert.Scale.shl]

/-- The codes of a block. -/
theorem codesBlk_apply (x0 : Vec Ideal S512x2560 .bf16) (r : Fin 512) (c : Fin 2560) :
    codesBlk x0 (ix2 r c) = codeK (fun k => x0 (ix2 r k)) c := by
  have h := pay9_apply (k0_pay7 x0) (k0_pay8 x0) (ix2 r 0) (pay8_apply x0 _)
  rw [pay7_apply] at h
  unfold codeK Cert.Scale.invK
  rw [← h]
  unfold codesBlk
  generalize k0_pay7 x0 = q
  generalize k0_pay8 x0 = f
  pointwise [ k0_pay1, k0_pay11, k0_pay6]
  rfl

/-- The adapter product of a block's row and a column of the first adapter matrix. -/
theorem tBlk_apply (x0 : Vec Ideal S512x2560 .bf16) (x3 : Vec Ideal S8x2560 .bf16) (r : Fin 512) (c : Fin 8) :
    tBlk x0 x3 (ix2 r c) = ∑ k : Fin 2560, x0 (ix2 r k) * x3 (ix2 c k) := by
  pointwise [tBlk, k0_pay4, k0_pay6]

/-- The outputs of a block. -/
theorem pay5_apply (v3 : Vec Ideal S512x2560 .fp8e4m3) (v5 : Vec Ideal S2560x1024 .fp8e4m3) (v7 : FVec Ideal S512x1 .f32)
    (v10 : Vec Ideal S1x1024 .f32) (v14 : Vec Ideal S512x8 .bf16) (v15 : Vec Ideal S8x1024 .bf16) (r : Fin 512) (c : Fin 1024) :
    k0_pay5 v3 v5 (k0_pay2 v7) v10 v14 v15 (ix2 r c) =
      (∑ k : Fin 2560, v3 (ix2 r k) * v5 (ix2 k c)) * v7 (ix2 r 0) * v10 (ix2 0 c)
        + (∑ k : Fin 8, v14 (ix2 r k) * v15 (ix2 k c)) * Ideal.ofBits .f32 0x40000000#32 := by
  pointwise [k0_pay5, k0_pay2]

/-- The scale row is the scale column, turned. -/
theorem pay3_apply (v7 : FVec Ideal S512x1 .f32) (z : Fin 1) (c : Fin 512) : k0_pay3 v7 (ix2 z c) = v7 (ix2 c 0) := by
  pointwise [k0_pay3]

end Cert.KernelIdeal.Hand
-- ==== Proof.Arrays.lean ====
/-
  What the kernel leaves in its result arrays, entry by entry, over the arrays its windows read.
-/
module

public import proofs.«01_k».proof.Proof.Block
public import proofs.«01_k».proof.Proof.Body
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-! ### Where the blocks lie -/

theorem idx0 : ∀ t : Fin cfg0.N, win0_0.index t = ![t.val / 10, 0] := (by decide +kernel : ∀ t : Fin grid0.N, _)
/-- The block of this window at a grid point. -/
theorem idx1 : ∀ t : Fin cfg0.N, win0_1.index t = ![0, t.val % 10] := (by decide +kernel : ∀ t : Fin grid0.N, _)
/-- The block of this window at a grid point. -/
theorem idx2 : ∀ t : Fin cfg0.N, win0_2.index t = ![0, t.val % 10] := (by decide +kernel : ∀ t : Fin grid0.N, _)
/-- The block of this window at a grid point. -/
theorem idx3 : ∀ t : Fin cfg0.N, win0_3.index t = ![0, 0] := (by decide +kernel : ∀ t : Fin grid0.N, _)
/-- The block of this window at a grid point. -/
theorem idx4 : ∀ t : Fin cfg0.N, win0_4.index t = ![0, t.val % 10] := (by decide +kernel : ∀ t : Fin grid0.N, _)
/-- The block of this window at a grid point. -/
theorem idx5 : ∀ t : Fin cfg0.N, win0_5.index t = ![t.val / 10, t.val % 10] := (by decide +kernel : ∀ t : Fin grid0.N, _)
/-- The block of this window at a grid point. -/
theorem idx6 : ∀ t : Fin cfg0.N, win0_6.index t = ![t.val / 10, 0] := (by decide +kernel : ∀ t : Fin grid0.N, _)

/-- There are 240 grid points. -/
theorem lt240 (t : Fin cfg0.N) : t.val < 240 := t.isLt

/-- Row `r` of block row `t / 10`. -/
def row (t : Fin cfg0.N) (r : Fin 512) : Fin 12288 := ⟨t.val / 10 * 512 + r.val, by have := lt240 t; omega⟩
/-- Column `q` of block column `t % 10`. -/
def col (t : Fin cfg0.N) (q : Fin 1024) : Fin 10240 := ⟨t.val % 10 * 1024 + q.val, by omega⟩

/-- The first point of a row of blocks has the same rows. -/
theorem row_st (t : Fin cfg0.N) (r : Fin 512) : row (st t) r = row t r :=
  Fin.ext (by show (st t).val / 10 * 512 + r.val = t.val / 10 * 512 + r.val; rw [st_val]; omega)

variable (m : (ℓ : Loc nD τ sig) → Buf (Elt Ideal) ℓ)

/-! ### The input blocks -/

theorem blk0_apply (c : Dev nD) (t : Fin cfg0.N) (r : Fin 512) (k : Fin 2560) :
    (iblk m c 0 t : Vec Ideal S512x2560 .bf16) (ix2 r k) = (V m c main_v0 : Vec Ideal S12288x2560 .bf16) (ix2 (row t r) k) := by
  unfold row
  blk_ext [iblk, idx0 t]

/-- An entry of the weight codes' block is an entry of the whole matrix. -/
theorem blk1_apply (c : Dev nD) (t : Fin cfg0.N) (k : Fin 2560) (q : Fin 1024) :
    (iblk m c 1 t : Vec Ideal S2560x1024 .fp8e4m3) (ix2 k q)
      = (V m c main_arg1 : Vec Ideal S2560x10240 .fp8e4m3) (ix2 k (col t q)) := by
  unfold col
  blk_ext [iblk, idx1 t]

/-- An entry of the weight scales' block is an entry of the whole row. -/
theorem blk2_apply (c : Dev nD) (t : Fin cfg0.N) (z : Fin 1) (q : Fin 1024) :
    (iblk m c 2 t : Vec Ideal S1x1024 .f32) (ix2 z q) = (V m c main_v1 : Vec Ideal S1x10240 .f32) (ix2 z (col t q)) := by
  unfold col
  blk_ext [iblk, idx2 t]

/-- The first adapter matrix is read whole. -/
theorem blk3_apply (c : Dev nD) (t : Fin cfg0.N) (l : Fin 8) (k : Fin 2560) :
    (iblk m c 3 t : Vec Ideal S8x2560 .bf16) (ix2 l k) = (V m c main_v2 : Vec Ideal S8x2560 .bf16) (ix2 l k) := by
  blk_ext [iblk, idx3 t]

/-- An entry of the second adapter matrix's block is an entry of the whole matrix. -/
theorem blk4_apply (c : Dev nD) (t : Fin cfg0.N) (l : Fin 8) (q : Fin 1024) :
    (iblk m c 4 t : Vec Ideal S8x1024 .bf16) (ix2 l q) = (V m c main_arg4 : Vec Ideal S8x10240 .bf16) (ix2 l (col t q)) := by
  unfold col
  blk_ext [iblk, idx4 t]

/-! ### The blocks of the results, over the arrays -/

/-- Row `R` of the activations. -/
def X (c : Dev nD) (R : Fin 12288) : Fin 2560 → EReal := fun k => (V m c main_v0 : Vec Ideal S12288x2560 .bf16) (ix2 R k)

/-- A row of the activations' block is a row of the whole matrix. -/
theorem blk0_row (c : Dev nD) (t : Fin cfg0.N) (r : Fin 512) :
    (fun k => (iblk m c 0 (st t) : Vec Ideal S512x2560 .bf16) (ix2 r k)) = X m c (row t r) :=
  funext fun k => (blk0_apply m c (st t) r k).trans (by rw [row_st]; rfl)

/-- The scale that is kept for a row is that row's scale. -/
theorem scaleAt_apply (c : Dev nD) (t : Fin cfg0.N) (r : Fin 512) (z : Fin 1) :
    scaleAt m c t (ix2 r z) = Cert.Scale.scaleK (Cert.Scale.quo (X m c (row t r))) :=
  (scaleCol_apply (iblk m c 0 (st t)) r z).trans (congrArg (fun f => Cert.Scale.scaleK (Cert.Scale.quo f)) (blk0_row m c t r))

/-- The codes that are kept for a row are that row's codes. -/
theorem codesAt_apply (c : Dev nD) (t : Fin cfg0.N) (r : Fin 512) (k : Fin 2560) :
    codesAt m c t (ix2 r k) = codeK (X m c (row t r)) k :=
  (codesBlk_apply (iblk m c 0 (st t)) r k).trans (congrArg (fun f => codeK f k) (blk0_row m c t r))

/-- The first adapter product that is kept for a row is that row's product. -/
theorem tAt_apply (c : Dev nD) (t : Fin cfg0.N) (r : Fin 512) (l : Fin 8) :
    tAt m c t (ix2 r l) = ∑ k : Fin 2560, X m c (row t r) k * (V m c main_v2 : Vec Ideal S8x2560 .bf16) (ix2 l k) :=
  (tBlk_apply (iblk m c 0 (st t)) (iblk m c 3 (st t)) r l).trans
    (Finset.sum_congr rfl fun k _ => congrArg₂ (fun a b : EReal => a * b) (congrFun (blk0_row m c t r) k) (blk3_apply m c (st t) l k))

/-- The kernel's output at row `R` and column `C`. -/
def yK (c : Dev nD) (R : Fin 12288) (C : Fin 10240) : EReal :=
  (∑ k : Fin 2560, codeK (X m c R) k * (V m c main_arg1 : Vec Ideal S2560x10240 .fp8e4m3) (ix2 k C))
      * Cert.Scale.scaleK (Cert.Scale.quo (X m c R)) * (V m c main_v1 : Vec Ideal S1x10240 .f32) (ix2 0 C)
    + (∑ l : Fin 8, (∑ k : Fin 2560, X m c R k * (V m c main_v2 : Vec Ideal S8x2560 .bf16) (ix2 l k))
          * (V m c main_arg4 : Vec Ideal S8x10240 .bf16) (ix2 l C)) * Ideal.ofBits .f32 0x40000000#32

/-- An entry of an output block is the whole output's entry. -/
theorem yAt_apply (c : Dev nD) (t : Fin cfg0.N) (r : Fin 512) (q : Fin 1024) :
    yAt m c t (ix2 r q) = yK m c (row t r) (col t q) := by
  have h := pay5_apply (codesAt m c t) (iblk m c 1 t) (scaleAt m c t) (iblk m c 2 t) (tAt m c t) (iblk m c 4 t) r q
  refine h.trans ?_
  unfold yK
  rw [scaleAt_apply, blk2_apply]
  refine congrArg₂ (fun a b : EReal => a * _ * _ + b * _) ?_ ?_
  · exact Finset.sum_congr rfl fun k _ => congrArg₂ (fun a b : EReal => a * b) (codesAt_apply m c t r k) (blk1_apply m c t k q)
  · exact Finset.sum_congr rfl fun l _ => congrArg₂ (fun a b : EReal => a * b) (tAt_apply m c t r l) (blk4_apply m c t l q)

end Cert.KernelIdeal.Hand
-- ==== Proof.RefBlock.lean ====
/-
  What the reference computes, entry by entry, on extended reals: the codes, the scales and the outputs of all 12288 rows.
-/
module

public import proofs.«01_k».proof.Proof.Gen.ReferenceIdeal.Frame
public import proofs.«01_k».proof.Proof.RowMax
public import Idealize.ShloMosaic.Lib.Pipeline.Value
public import Idealize.ShloMosaic.Lib.Pointwise

@[expose] public section

set_option maxRecDepth 16384

noncomputable section

namespace Cert.ReferenceIdeal.Hand

open Cert.ReferenceIdeal Cert.ReferenceIdeal.Gen
open Idealize.ShloMosaic

/-- One code of the reference: the entry times the reciprocal of its row's scale, clipped to ±448. -/
def codeR (X : Fin 2560 → EReal) (c : Fin 2560) : EReal :=
  min (Ideal.ofBits .f32 0x43E00000#32) (max (Ideal.ofBits .f32 0xC3E00000#32) (X c * Cert.Scale.invR (Cert.Scale.quo X)))

/-- The magnitude of an entry. -/
theorem abs_apply (x0 : Vec Ideal S12288x2560 .bf16) (r : Fin 12288) (k : Fin 2560) :
    absf (k0_pay4 x0) (ix2 r k) = max (x0 (ix2 r k)) (-x0 (ix2 r k)) := by
  unfold k0_pay4 k0_pay3
  rw [shapeCast_self]
  rfl

/-- The row maxima. -/
theorem max_apply (x0 : Vec Ideal S12288x2560 .bf16) (r : Fin 12288) :
    multiReduction (F := Ideal) .maximumf [1] S12288 (absf (k0_pay4 x0)) 0xFF800000#32 reduces_S12288x2560_S12288 (.inl rfl) rfl
        (ix1 r)
      = Finset.fold max ⊥ (fun k => max (x0 (ix2 r k)) (-x0 (ix2 r k))) Finset.univ := by
  rw [← Cert.Scale.bot_f32]
  refine (Cert.Scale.rowMax_apply (absf (k0_pay4 x0)) 0xFF800000#32 reduces_S12288x2560_S12288 (.inl rfl) rfl r).trans ?_
  exact congrArg (fun f => Finset.fold max (Ideal.ofBits .f32 0xFF800000#32 : EReal) f Finset.univ)
    (funext fun k => abs_apply x0 r k)

/-- A column of row maxima, times a factor. -/
theorem scaled_apply (mr : FVec Ideal S12288 .f32) (a : Ideal .f32) (r : Fin 12288) (z : Fin 1) :
    mulf (shapeCast S12288x1 mr shapeCasts_S12288_S12288x1) (broadcast S12288x1 a) (ix2 r z) = mr (ix1 r) * a := by
  pointwise

/-- The exponent of a column of quotients, at an entry. -/
theorem expo_vec (q : FVec Ideal S12288x1 .f32) (j : S12288x1.Idx) :
    select (cmpf .olt q (broadcast S12288x1 (Scalar.ofBits .f32 0x00800000#32)))
      (broadcast S12288x1 (Scalar.ofBits .f32 0x00000000#32))
      (addf (floor (divf (log q) (log (broadcast S12288x1 (Scalar.ofBits .f32 0x40000000#32)))))
        (broadcast S12288x1 (Scalar.ofBits .f32 0x3F800000#32))) j = Cert.Scale.expoR (q j) := by
  have h0 : (Ideal.ofBits .f32 0x00000000#32 : EReal) = 0 := Ideal.ofBits_zero_f32
  have h1 : (Ideal.ofBits .f32 0x3F800000#32 : EReal) = 1 := Ideal.ofBits_one_f32
  unfold Cert.Scale.expoR
  rw [← h0, ← h1]
  exact (rfl)

/-- The exponent of a row. -/
theorem pay5_apply (x0 : Vec Ideal S12288x2560 .bf16) (r : Fin 12288) (z : Fin 1) :
    k0_pay5 x0 (ix2 r z) = Cert.Scale.expoR (Cert.Scale.quo fun k => x0 (ix2 r k)) := by
  have h := max_apply x0 r
  unfold k0_pay5
  generalize multiReduction (F := Ideal) .maximumf [1] S12288 (absf (k0_pay4 x0)) 0xFF800000#32 reduces_S12288x2560_S12288
    (.inl rfl) rfl = mr at h
  have h2 := scaled_apply mr (Scalar.ofBits .f32 0x3B124925#32) r z
  generalize hq : mulf (shapeCast S12288x1 mr shapeCasts_S12288_S12288x1) (broadcast S12288x1 (Scalar.ofBits .f32 0x3B124925#32))
    = q at h2
  refine (expo_vec q (ix2 r z)).trans (congrArg Cert.Scale.expoR ?_)
  rw [h2, h]
  exact (rfl)

/-- The exponential to base two, on extended reals. -/
theorem exp2_eq {φ : FTy} (x : Ideal φ) : (FloatOps.exp2 x : Ideal φ) = Ideal.exp2 x := rfl

/-- The exponential of a column, at an entry. -/
theorem exp2_vec (q : FVec Ideal S12288x1 .f32) (j : S12288x1.Idx) : exp2 q j = Ideal.exp2 (q j) := (rfl)

/-- The scales are the exponential of the exponents. -/
theorem pay6_def (x0 : Vec Ideal S12288x2560 .bf16) : k0_pay6 x0 = exp2 (k0_pay5 x0) := by unfold k0_pay6; exact (rfl)

/-- The scale of a row. -/
theorem pay6_apply (x0 : Vec Ideal S12288x2560 .bf16) (r : Fin 12288) (z : Fin 1) :
    k0_pay6 x0 (ix2 r z) = Cert.Scale.scaleR (Cert.Scale.quo fun k => x0 (ix2 r k)) :=
  (congrFun (pay6_def x0) (ix2 r z)).trans
    ((exp2_vec (k0_pay5 x0) (ix2 r z)).trans (congrArg Ideal.exp2 (pay5_apply x0 r z)))

/-- The code of an entry, over any column of exponents. -/
theorem code_vec (x : FVec Ideal S12288x2560 .bf16) (e : FVec Ideal S12288x1 .f32) (r : Fin 12288) (c : Fin 2560) :
    truncf .fp8e4m3 (minimumf (broadcast S12288x2560 (Scalar.ofBits .f32 0x43E00000#32))
      (maximumf (broadcast S12288x2560 (Scalar.ofBits .f32 0xC3E00000#32))
        (mulf (extf .f32 x bitsLt_bf16_f32)
          (broadcastTo S12288x2560 (exp2 (subf (broadcast S12288x1 (Scalar.ofBits .f32 0x00000000#32)) e))
            broadcasts_S12288x1_S12288x2560)))) bitsLt_fp8e4m3_f32 (ix2 r c)
      = min (Ideal.ofBits .f32 0x43E00000#32) (max (Ideal.ofBits .f32 0xC3E00000#32)
          (x (ix2 r c) * Ideal.exp2 (Ideal.ofBits .f32 0x00000000#32 - e (ix2 r 0)))) := by
  pointwise [exp2_eq]

/-- The codes, over the exponents. -/
theorem pay7_def (x0 : Vec Ideal S12288x2560 .bf16) (r : Fin 12288) (c : Fin 2560) :
    k0_pay7 x0 (ix2 r c) = min (Ideal.ofBits .f32 0x43E00000#32) (max (Ideal.ofBits .f32 0xC3E00000#32)
          (x0 (ix2 r c) * Ideal.exp2 (Ideal.ofBits .f32 0x00000000#32 - k0_pay5 x0 (ix2 r 0)))) := by
  have h := code_vec x0 (k0_pay5 x0) r c
  unfold k0_pay7 k0_pay4 k0_pay3
  rw [shapeCast_self]
  exact h

/-- The code of an entry is `codeR` once the exponent is that of its row. -/
theorem code_eq (X : Fin 2560 → EReal) (c : Fin 2560) (e : EReal) (h : e = Cert.Scale.expoR (Cert.Scale.quo X)) :
    min (Ideal.ofBits .f32 0x43E00000#32) (max (Ideal.ofBits .f32 0xC3E00000#32)
          (X c * Ideal.exp2 (Ideal.ofBits .f32 0x00000000#32 - e))) = codeR X c := by
  have h0 : (Ideal.ofBits .f32 0x00000000#32 : EReal) = 0 := Ideal.ofBits_zero_f32
  unfold codeR Cert.Scale.invR
  rw [h0, h]

/-- The codes. -/
theorem pay7_apply (x0 : Vec Ideal S12288x2560 .bf16) (r : Fin 12288) (c : Fin 2560) :
    k0_pay7 x0 (ix2 r c) = codeR (fun k => x0 (ix2 r k)) c :=
  (pay7_def x0 r c).trans (code_eq (fun k => x0 (ix2 r k)) c _ (pay5_apply x0 r 0))

/-- The adapter product of a row and a column of the first adapter matrix. -/
theorem pay9_apply (x0 : Vec Ideal S12288x2560 .bf16) (x3 : Vec Ideal S2560x8 .bf16) (r : Fin 12288) (c : Fin 8) :
    k0_pay9 x0 x3 (ix2 r c) = ∑ k : Fin 2560, x0 (ix2 r k) * x3 (ix2 k c) := by
  pointwise [k0_pay9, k0_pay3]

/-- The outputs, over the codes, the scales and the adapter product. -/
theorem pay1_apply (x0 : Vec Ideal S12288x2560 .bf16) (x1 : Vec Ideal S2560x10240 .fp8e4m3) (x2 : Vec Ideal S1x10240 .f32)
    (t : FVec Ideal S12288x8 .bf16) (x4 : Vec Ideal S8x10240 .bf16) (r : Fin 12288) (c : Fin 10240) :
    k0_pay1 (k0_pay8 x0 x1 x2) t x4 (ix2 r c) =
      (∑ k : Fin 2560, k0_pay7 x0 (ix2 r k) * x1 (ix2 k c)) * k0_pay6 x0 (ix2 r 0) * x2 (ix2 0 c)
        + (∑ k : Fin 8, t (ix2 r k) * x4 (ix2 k c)) * Ideal.ofBits .f32 0x40000000#32 := by
  unfold k0_pay8
  generalize k0_pay7 x0 = v
  generalize k0_pay6 x0 = s
  pointwise [k0_pay1]

/-- The scale table: row `z0 * 512 + z1`'s scale at `(z0, z1)`. -/
theorem pay2_apply (v : FVec Ideal S12288x1 .f32) (z0 : Fin 24) (z1 : Fin 512) (r : Fin 12288)
    (hr : r.val = z0.val * 512 + z1.val) : k0_pay2 v (ix2 z0 z1) = v (ix2 r 0) := by
  have h : r = ⟨z0.val * 512 + z1.val, by omega⟩ := Fin.ext hr
  rw [h]
  pointwise [k0_pay2]

/-! ### The three results over the input arrays -/

theorem hz2 : (![0, 0] : Fin 2 → Nat) = fun _ => 0 := by funext a; fin_cases a <;> rfl

variable (x0 : Vec Ideal S12288x2560 .bf16) (x1 : Vec Ideal S2560x10240 .fp8e4m3) (x2 : Vec Ideal S1x10240 .f32)
  (x3 : Vec Ideal S2560x8 .bf16) (x4 : Vec Ideal S8x10240 .bf16)

/-- The codes that the reference leaves. -/
theorem out6_apply (r : Fin 12288) (c : Fin 2560) :
    out0_6 x0 x1 x2 x3 x4 (ix2 r c) = codeR (fun k => x0 (ix2 r k)) c := by
  unfold out0_6
  rw [View.canon_unit_zero hz2, View.ld_unit_zero hz2]
  exact pay7_apply x0 r c

/-- The scales that the reference leaves. -/
theorem out7_apply (z0 : Fin 24) (z1 : Fin 512) (r : Fin 12288) (hr : r.val = z0.val * 512 + z1.val) :
    out0_7 x0 x1 x2 x3 x4 (ix2 z0 z1) = Cert.Scale.scaleR (Cert.Scale.quo fun k => x0 (ix2 r k)) := by
  unfold out0_7
  rw [View.canon_unit_zero hz2, View.ld_unit_zero hz2, pay2_apply _ z0 z1 r hr]
  exact pay6_apply x0 r 0

/-- The outputs that the reference leaves. -/
theorem out5_apply (r : Fin 12288) (c : Fin 10240) :
    out0_5 x0 x1 x2 x3 x4 (ix2 r c) =
      (∑ k : Fin 2560, codeR (fun k => x0 (ix2 r k)) k * x1 (ix2 k c))
          * Cert.Scale.scaleR (Cert.Scale.quo fun k => x0 (ix2 r k)) * x2 (ix2 0 c)
        + (∑ l : Fin 8, (∑ k : Fin 2560, x0 (ix2 r k) * x3 (ix2 k l)) * x4 (ix2 l c)) * Ideal.ofBits .f32 0x40000000#32 := by
  unfold out0_5
  rw [View.canon_unit_zero hz2, View.ld_unit_zero hz2, View.ld_unit_zero hz2, View.ld_unit_zero hz2, View.ld_unit_zero hz2,
    View.ld_unit_zero hz2]
  rw [pay1_apply, pay6_apply]
  simp only [pay7_apply, pay9_apply]

end Cert.ReferenceIdeal.Hand
-- ==== Proof.Reference.lean ====
/-
  What the reference's run leaves in its three result arrays, as whole arrays over the arrays its windows read.
-/
module

public import proofs.«01_k».proof.Proof.RefBlock
public import Idealize.ShloMosaic.Lib.Claim
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- This window is the whole array. -/
theorem idx0 : ∀ t : Fin cfg0.N, win0_0.index t = ![0, 0] := (by decide +kernel : ∀ t : Fin grid0.N, _)
/-- This window is the whole array. -/
theorem idx1 : ∀ t : Fin cfg0.N, win0_1.index t = ![0, 0] := (by decide +kernel : ∀ t : Fin grid0.N, _)
/-- This window is the whole array. -/
theorem idx2 : ∀ t : Fin cfg0.N, win0_2.index t = ![0, 0] := (by decide +kernel : ∀ t : Fin grid0.N, _)
/-- This window is the whole array. -/
theorem idx3 : ∀ t : Fin cfg0.N, win0_3.index t = ![0, 0] := (by decide +kernel : ∀ t : Fin grid0.N, _)
/-- This window is the whole array. -/
theorem idx4 : ∀ t : Fin cfg0.N, win0_4.index t = ![0, 0] := (by decide +kernel : ∀ t : Fin grid0.N, _)
/-- This window is the whole array. -/
theorem idx5 : ∀ t : Fin cfg0.N, win0_5.index t = ![0, 0] := (by decide +kernel : ∀ t : Fin grid0.N, _)
/-- This window is the whole array. -/
theorem idx6 : ∀ t : Fin cfg0.N, win0_6.index t = ![0, 0] := (by decide +kernel : ∀ t : Fin grid0.N, _)
/-- This window is the whole array. -/
theorem idx7 : ∀ t : Fin cfg0.N, win0_7.index t = ![0, 0] := (by decide +kernel : ∀ t : Fin grid0.N, _)

variable (m : (ℓ : Loc nD τ sig) → Buf (Elt Ideal) ℓ)

/-! ### The input blocks are the arrays -/

theorem blk0_apply (c : Dev nD) (t : Fin cfg0.N) (r : Fin 12288) (k : Fin 2560) :
    (iblk m c 0 t : Vec Ideal S12288x2560 .bf16) (ix2 r k) = (V m c main_v0 : Vec Ideal S12288x2560 .bf16) (ix2 r k) := by
  blk_ext [iblk, idx0 t]
/-- The weight codes are read whole. -/
theorem blk1_apply (c : Dev nD) (t : Fin cfg0.N) (k : Fin 2560) (q : Fin 10240) :
    (iblk m c 1 t : Vec Ideal S2560x10240 .fp8e4m3) (ix2 k q) = (V m c main_arg1 : Vec Ideal S2560x10240 .fp8e4m3) (ix2 k q) := by
  blk_ext [iblk, idx1 t]
/-- The weight scales are read whole. -/
theorem blk2_apply (c : Dev nD) (t : Fin cfg0.N) (z : Fin 1) (q : Fin 10240) :
    (iblk m c 2 t : Vec Ideal S1x10240 .f32) (ix2 z q) = (V m c main_v1 : Vec Ideal S1x10240 .f32) (ix2 z q) := by
  blk_ext [iblk, idx2 t]
/-- The first adapter matrix is read whole. -/
theorem blk3_apply (c : Dev nD) (t : Fin cfg0.N) (k : Fin 2560) (l : Fin 8) :
    (iblk m c 3 t : Vec Ideal S2560x8 .bf16) (ix2 k l) = (V m c main_arg3 : Vec Ideal S2560x8 .bf16) (ix2 k l) := by
  blk_ext [iblk, idx3 t]
/-- The second adapter matrix is read whole. -/
theorem blk4_apply (c : Dev nD) (t : Fin cfg0.N) (l : Fin 8) (q : Fin 10240) :
    (iblk m c 4 t : Vec Ideal S8x10240 .bf16) (ix2 l q) = (V m c main_arg4 : Vec Ideal S8x10240 .bf16) (ix2 l q) := by
  blk_ext [iblk, idx4 t]

/-- Row `R` of the activations. -/
def X (c : Dev nD) (R : Fin 12288) : Fin 2560 → EReal := fun k => (V m c main_v0 : Vec Ideal S12288x2560 .bf16) (ix2 R k)

/-- A row of the activations that the reference reads is a row of the whole matrix. -/
theorem blk0_row (c : Dev nD) (t : Fin cfg0.N) (r : Fin 12288) :
    (fun k => (iblk m c 0 t : Vec Ideal S12288x2560 .bf16) (ix2 r k)) = X m c r :=
  funext fun k => blk0_apply m c t r k

/-- The reference's output at row `R` and column `C`. -/
def yR (c : Dev nD) (R : Fin 12288) (C : Fin 10240) : EReal :=
  (∑ k : Fin 2560, codeR (X m c R) k * (V m c main_arg1 : Vec Ideal S2560x10240 .fp8e4m3) (ix2 k C))
      * Cert.Scale.scaleR (Cert.Scale.quo (X m c R)) * (V m c main_v1 : Vec Ideal S1x10240 .f32) (ix2 0 C)
    + (∑ l : Fin 8, (∑ k : Fin 2560, X m c R k * (V m c main_arg3 : Vec Ideal S2560x8 .bf16) (ix2 k l))
          * (V m c main_arg4 : Vec Ideal S8x10240 .bf16) (ix2 l C)) * Ideal.ofBits .f32 0x40000000#32

/-- The scale at `(a, b)` of the reference's scale table. -/
def scR (c : Dev nD) (a : Fin 24) (b : Fin 512) : EReal :=
  Cert.Scale.scaleR (Cert.Scale.quo (X m c ⟨a.val * 512 + b.val, by omega⟩))

/-- What the body leaves of the outputs. -/
theorem y_apply (c : Dev nD) (t : Fin cfg0.N) (R : Fin 12288) (C : Fin 10240) :
    out0_5 (iblk m c 0 t) (iblk m c 1 t) (iblk m c 2 t) (iblk m c 3 t) (iblk m c 4 t) (ix2 R C) = yR m c R C := by
  refine (out5_apply _ _ _ _ _ R C).trans ?_
  unfold yR
  rw [blk2_apply, blk0_row]
  refine congrArg₂ (fun a b : EReal => a * _ * _ + b * _) ?_ ?_
  · exact Finset.sum_congr rfl fun k _ => congrArg (fun b : EReal => codeR (X m c R) k * b) (blk1_apply m c t k C)
  · exact Finset.sum_congr rfl fun l _ => congrArg₂ (fun a b : EReal => a * b)
      (Finset.sum_congr rfl fun k _ => congrArg₂ (fun a b : EReal => a * b) (blk0_apply m c t R k) (blk3_apply m c t k l))
      (blk4_apply m c t l C)

/-- What the body leaves of the codes. -/
theorem codes_apply (c : Dev nD) (t : Fin cfg0.N) (R : Fin 12288) (k : Fin 2560) :
    out0_6 (iblk m c 0 t) (iblk m c 1 t) (iblk m c 2 t) (iblk m c 3 t) (iblk m c 4 t) (ix2 R k) = codeR (X m c R) k :=
  (out6_apply _ _ _ _ _ R k).trans (congrArg (fun f => codeR f k) (blk0_row m c t R))

/-- What the body leaves of the scales. -/
theorem scales_apply (c : Dev nD) (t : Fin cfg0.N) (a : Fin 24) (b : Fin 512) :
    out0_7 (iblk m c 0 t) (iblk m c 1 t) (iblk m c 2 t) (iblk m c 3 t) (iblk m c 4 t) (ix2 a b) = scR m c a b :=
  (out7_apply _ _ _ _ _ a b ⟨a.val * 512 + b.val, by omega⟩ rfl).trans
    (congrArg (fun f => Cert.Scale.scaleR (Cert.Scale.quo f)) (blk0_row m c t _))

/-! ### The whole arrays -/

theorem cov5 : (cfg0.win 5).Covers := by decide +kernel
/-- The one block of this result is the whole result. -/
theorem cov6 : (cfg0.win 6).Covers := by decide +kernel
/-- The one block of this result is the whole result. -/
theorem cov7 : (cfg0.win 7).Covers := by decide +kernel

/-- A block with the outputs' entries lies in the array where it does. -/
theorem hG5 (c : Dev nD) (t : Fin cfg0.N) (y : ((cfg0.win 5).xblock (cfg0.grid.coords t)).Idx) (P : Vec Ideal S12288x10240 .bf16)
    (hP : ∀ (R : Fin 12288) (C : Fin 10240), P (ix2 R C) = yR m c R C) :
    P ((cfg0.win 5).xinj (cfg0.grid.coords t) y)
      = (fun j : S12288x10240.Idx => yR m c (j 0) (j 1)) (((cfg0.win 5).blk t).view.emb y) := by
  refine (congrArg P (eq_ix2 (n0 := 12288) (n1 := 10240) _)).trans ((hP _ _).trans ?_)
  refine congrArg₂ (yR m c) ?_ ?_
  · apply Fin.ext
    blk_simp [idx5 t]
  · apply Fin.ext
    blk_simp [idx5 t]

/-- A block with the codes' entries lies in the array where it does. -/
theorem hG6 (c : Dev nD) (t : Fin cfg0.N) (y : ((cfg0.win 6).xblock (cfg0.grid.coords t)).Idx) (P : Vec Ideal S12288x2560 .fp8e4m3)
    (hP : ∀ (R : Fin 12288) (C : Fin 2560), P (ix2 R C) = codeR (X m c R) C) :
    P ((cfg0.win 6).xinj (cfg0.grid.coords t) y)
      = (fun j : S12288x2560.Idx => codeR (X m c (j 0)) (j 1)) (((cfg0.win 6).blk t).view.emb y) := by
  refine (congrArg P (eq_ix2 (n0 := 12288) (n1 := 2560) _)).trans ((hP _ _).trans ?_)
  refine congrArg₂ (fun R k => codeR (X m c R) k) ?_ ?_
  · apply Fin.ext
    blk_simp [idx6 t]
  · apply Fin.ext
    blk_simp [idx6 t]

/-- A block with the scales' entries lies in the array where it does. -/
theorem hG7 (c : Dev nD) (t : Fin cfg0.N) (y : ((cfg0.win 7).xblock (cfg0.grid.coords t)).Idx) (P : Vec Ideal S24x512 .f32)
    (hP : ∀ (R : Fin 24) (C : Fin 512), P (ix2 R C) = scR m c R C) :
    P ((cfg0.win 7).xinj (cfg0.grid.coords t) y)
      = (fun z : S24x512.Idx => scR m c (z 0) (z 1)) (((cfg0.win 7).blk t).view.emb y) := by
  refine (congrArg P (eq_ix2 (n0 := 24) (n1 := 512) _)).trans ((hP _ _).trans ?_)
  refine congrArg₂ (scR m c) ?_ ?_
  · apply Fin.ext
    blk_simp [idx7 t]
  · apply Fin.ext
    blk_simp [idx7 t]

/-- The outputs. -/
theorem arr5 (c : Dev nD) : (dats m 0 c).arrAt 5 cfg0.N = fun j : S12288x10240.Idx => yR m c (j 0) (j 1) := by
  refine (dats m 0 c).arrAt_eq_of_covers 5 _ cov5 (fun t hf y => ?_) (Memref.isWhole_whole _)
  rw [after0_5]
  have hP := y_apply m c t
  generalize out0_5 (iblk m c 0 t) (iblk m c 1 t) (iblk m c 2 t) (iblk m c 3 t) (iblk m c 4 t) = P at hP
  exact hG5 m c t y P hP

/-- The codes. -/
theorem arr6 (c : Dev nD) : (dats m 0 c).arrAt 6 cfg0.N = fun j : S12288x2560.Idx => codeR (X m c (j 0)) (j 1) := by
  refine (dats m 0 c).arrAt_eq_of_covers 6 _ cov6 (fun t hf y => ?_) (Memref.isWhole_whole _)
  rw [after0_6]
  have hP := codes_apply m c t
  generalize out0_6 (iblk m c 0 t) (iblk m c 1 t) (iblk m c 2 t) (iblk m c 3 t) (iblk m c 4 t) = P at hP
  exact hG6 m c t y P hP

/-- The scales. -/
theorem arr7 (c : Dev nD) : (dats m 0 c).arrAt 7 cfg0.N = fun z : S24x512.Idx => scR m c (z 0) (z 1) := by
  refine (dats m 0 c).arrAt_eq_of_covers 7 _ cov7 (fun t hf y => ?_) (Memref.isWhole_whole _)
  rw [after0_7]
  have hP := scales_apply m c t
  generalize out0_7 (iblk m c 0 t) (iblk m c 1 t) (iblk m c 2 t) (iblk m c 3 t) (iblk m c 4 t) = P at hP
  exact hG7 m c t y P hP

/-- The run's three results, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v2_0) = (fun j : S12288x10240.Idx => yR m c (j 0) (j 1))
      ∧ r.2.mem ((c.tc : Thread nD τ).loc main_v2_1) = (fun j : S12288x2560.Idx => codeR (X m c (j 0)) (j 1))
      ∧ r.2.mem ((c.tc : Thread nD τ).loc main_v2_2) = (fun z : S24x512.Idx => scR m c (z 0) (z 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 5).trans (arr5 m c), ((h.1 c).1 6).trans (arr6 m c), ((h.1 c).1 7).trans (arr7 m c), h.2.1 c⟩)
    (θ_run_and (run_main m ρ) (frame m ρ))

end Cert.ReferenceIdeal.Hand
-- ==== Proof.Inputs.lean ====
/-
  The arrays that the two programs read, over the arguments: the activations as one matrix of 12288 rows, the weight scales as one
  row, and the first adapter matrix (turned, in the kernel's case); and what the precondition says of the activations.
-/
module

public import proofs.«01_k».proof.Proof.Arrays
public import proofs.«01_k».proof.Proof.Reference
public import proofs.«01_k».proof.Pre_finite
public import proofs.«01_k».proof.Defs
public import Idealize.ShloMosaic.Lib.ReduceAll

@[expose] public section

set_option maxRecDepth 16384

noncomputable section

namespace Cert.Inputs

open Idealize.ShloMosaic Idealize.ShloMosaic.TcCoe

/-! ### The arguments, as each program's host operations pass them on -/

section Kernel
open Cert.KernelIdeal Cert.KernelIdeal.Gen
variable (m : (ℓ : Loc nD τ sig) → Buf (Elt Ideal) ℓ)

/-- The kernel's activations: the argument as a matrix. -/
theorem kernel_x (c : Dev nD) : V m c main_v0
    = (shapeCast S12288x2560 (m ((c.tc : Thread nD τ).loc main_arg0) : Vec Ideal S24x512x2560 .bf16) shapeCasts_S24x512x2560_S12288x2560 : Vec Ideal S12288x2560 .bf16) := by
  entry_read
  rfl
/-- The kernel's weight scales: the argument as a row. -/
theorem kernel_ws (c : Dev nD) : V m c main_v1
    = (shapeCast S1x10240 (m ((c.tc : Thread nD τ).loc main_arg2) : Vec Ideal S10240 .f32) shapeCasts_S10240_S1x10240 : Vec Ideal S1x10240 .f32) := by
  entry_read
  rfl
/-- The kernel's first adapter matrix: the argument, turned. -/
theorem kernel_la (c : Dev nD) : V m c main_v2
    = (transpose S8x2560 [1, 0] (m ((c.tc : Thread nD τ).loc main_arg3) : Vec Ideal S2560x8 .bf16) transposes_S2560x8_S8x2560_1_0 : Vec Ideal S8x2560 .bf16) := by
  entry_read
  rfl
end Kernel

section Reference
open Cert.ReferenceIdeal Cert.ReferenceIdeal.Gen
variable (m : (ℓ : Loc nD τ sig) → Buf (Elt Ideal) ℓ)

/-- The reference's activations: the argument as a matrix. -/
theorem reference_x (c : Dev nD) : V m c main_v0
    = (shapeCast S12288x2560 (m ((c.tc : Thread nD τ).loc main_arg0) : Vec Ideal S24x512x2560 .bf16) shapeCasts_S24x512x2560_S12288x2560 : Vec Ideal S12288x2560 .bf16) := by
  entry_read
  rfl
/-- The reference's weight scales: the argument as a row. -/
theorem reference_ws (c : Dev nD) : V m c main_v1
    = (shapeCast S1x10240 (m ((c.tc : Thread nD τ).loc main_arg2) : Vec Ideal S10240 .f32) shapeCasts_S10240_S1x10240 : Vec Ideal S1x10240 .f32) := by
  entry_read
  rfl
end Reference

/-! ### The precondition -/

/-- The side conditions of the precondition. -/
theorem pre_facts : Cert.Pre_finite.Facts where
  bcast_S_S24x512x2560 := by decide
  reducesTo_S24x512x2560_S_d0_1_2 := by decide
  h_S_ := by decide

/-- A scalar has one index. -/
instance : Subsingleton Cert.Pre_finite.S_.Idx := ⟨fun a b => funext fun i => i.elim0⟩

/-- The precondition bounds the magnitude of every activation. -/
theorem bound_of_pre [Cert.Pre_finite.Facts] (x0 : Vec Ideal Cert.Pre_finite.S24x512x2560 .bf16) (x1 x2 x3 x4)
    (h : Cert.Pre_finite.fn (F := Ideal) x0 x1 x2 x3 x4 = fun _ => 1#1) (i : Cert.Pre_finite.S24x512x2560.Idx) :
    max (x0 i) (-x0 i) ≤ (Cert.Scale.big : EReal) := by
  have e := congrFun h (fun a => a.elim0)
  unfold Cert.Pre_finite.fn at e
  have e1 := Host.reduce_andi_all _ _ _ _ _ e i
  rw [← Cert.Scale.big_bf16]
  have e2 : Ideal.cmp .ole (max (x0 i) (-x0 i) : EReal) (Ideal.ofBits .bf16 0x7F7F#16 : EReal) = 1#1 := e1
  by_contra hc
  simp only [Ideal.cmp, decide_eq_false hc] at e2
  exact absurd e2 (by decide)

end Cert.Inputs
-- ==== Proof.Post.lean ====
/-
  Reading a result array off the run of a pipeline whose proof data hold some output windows to a predicate and name the contents of
  the rest: a named one ends at its array, and one that is written back once, whole, ends at contents meeting the predicate.
-/
module

public import Idealize.ShloMosaic.Lib.Pipeline.ValueKit
public import Idealize.ShloMosaic.Lib.Pipeline.DatRel
public import Idealize.ShloMosaic.Lib.Pipeline.ArrRel
public import Idealize.ShloMosaic.Lib.Claim

@[expose] public section

noncomputable section

namespace Cert.Post

open Idealize.ShloMosaic Idealize.ShloMosaic.TcCoe Idealize.SL.RA
open Idealize.ShloMosaic.Pipeline (Cfg Dat RDat arrRef)

variable {nD : Nat} {τ : Topo} {sig : RefSig} {Val : EltTy → Type} {Λ₀ : Idealize.SL.Sem.Labels} [∀ e, Nonempty (Val e)]
variable {cfg : Cfg sig Λ₀} {U : Type} [URA U] (dat : (c : Dev nD) → Dat τ Val Unit ℕ U ℕ cfg c) (held : Fin cfg.W → Bool)
  (Rl : (c : Dev nD) → (w : Fin cfg.W) → Fin cfg.N → ((cfg.win w).block.Idx → Val (cfg.win w).elt) → Prop)
variable {V : (c : Dev nD) → (b : Ref sig .tc) → Buf Val ((c.tc : Thread nD τ).loc b)} {r : PUnit × MemSt nD τ sig Val}

/-- An output window that is not held to a predicate ends at its array. -/
theorem exact_out (h : RDat.FramePost cfg (fun c => (dat c).toRRel held (Rl c)) V r) (c : Dev nD) (w : Fin cfg.W) (hf : held w = false) :
    r.2.mem ((cfg.spec w).arr.view.loc (c.tc : Thread nD τ)) = (dat c).arrAt w cfg.N :=
  ((dat c).toR_arrAt_iff w _ _).mp (((dat c).toR.override_arrAt (by simp only [hf]) _ _).mp ((h c).1 w))

/-- A held window that is written back once, whole, ends at contents meeting its predicate at that point. -/
theorem held_out (h : RDat.FramePost cfg (fun c => (dat c).toRRel held (Rl c)) V r) (c : Dev nD) (w : Fin cfg.W) (hf : held w = true)
    (t₀ : Fin cfg.N) (hw : (cfg.win w).WholeAt t₀) :
    ∃ Y, Rl c w t₀ Y ∧ ∀ j : (cfg.win w).shape.Idx,
      r.2.mem ((cfg.win w).arr.view.loc (c.tc : Thread nD τ)) ((cfg.win w).arr.view.emb j)
        = _root_.cast (congrArg Val (cfg.win w).arr.view.elt_eq.symm) (Y fun a => ⟨j a, hw.lt_size j a⟩) := by
  obtain ⟨Y, hl, hY⟩ := RDat.ArrAt.emb_eq_of_wholeAt ((h c).1 w) hw
  exact ⟨Y, Dat.toRRel_leaves (dat c) hf hl, hY⟩

end Cert.Post
-- ==== Proof.Results.lean ====
/-
  What the kernel's run leaves in its three result arrays, as whole arrays.
-/
module

public import proofs.«01_k».proof.Proof.Arrays
public import proofs.«01_k».proof.Proof.Post
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The written blocks of the outputs cover their array. -/
theorem cov5 : (cfg0.win 5).Covers := by decide +kernel

/-- What a point leaves of the outputs lies in the array where its block does. -/
theorem hG5 (c : Dev nD) (t : Fin cfg0.N) (y : ((cfg0.win 5).xblock (cfg0.grid.coords t)).Idx) :
    yAt m c t ((cfg0.win 5).xinj (cfg0.grid.coords t) y)
      = (fun j : S12288x10240.Idx => yK m c (j 0) (j 1)) (((cfg0.win 5).blk t).view.emb y) := by
  refine (congrArg (yAt m c t) (eq_ix2 (n0 := 512) (n1 := 1024) _)).trans ((yAt_apply m c t _ _).trans ?_)
  refine congrArg₂ (yK m c) ?_ ?_
  · apply Fin.ext
    unfold row
    blk_simp [idx5 t]
  · apply Fin.ext
    unfold col
    blk_simp [idx5 t]

/-- The outputs. -/
theorem arr5 (c : Dev nD) : (dats m 0 c).arrAt 5 cfg0.N = fun j : S12288x10240.Idx => yK m c (j 0) (j 1) := by
  refine (dats m 0 c).arrAt_eq_of_covers 5 _ cov5 (fun t hf y => ?_) (Memref.isWhole_whole _)
  rw [after0_5]
  exact hG5 m c t y

/-- The written blocks of the codes cover their array. -/
theorem cov6 : (cfg0.win 6).Covers := by decide +kernel

/-- What a point leaves of the codes lies in the array where its block does. -/
theorem hG6 (c : Dev nD) (t : Fin cfg0.N) (y : ((cfg0.win 6).xblock (cfg0.grid.coords t)).Idx) :
    codesAt m c t ((cfg0.win 6).xinj (cfg0.grid.coords t) y)
      = (fun j : S12288x2560.Idx => codeK (X m c (j 0)) (j 1)) (((cfg0.win 6).blk t).view.emb y) := by
  refine (congrArg (codesAt m c t) (eq_ix2 (n0 := 512) (n1 := 2560) _)).trans ((codesAt_apply m c t _ _).trans ?_)
  refine congrArg₂ (fun R k => codeK (X m c R) k) ?_ ?_
  · apply Fin.ext
    unfold row
    blk_simp [idx6 t]
  · apply Fin.ext
    blk_simp [idx6 t]

/-- The codes. -/
theorem arr6 (c : Dev nD) : (dats m 0 c).arrAt 6 cfg0.N = fun j : S12288x2560.Idx => codeK (X m c (j 0)) (j 1) := by
  refine (dats m 0 c).arrAt_eq_of_covers 6 _ cov6 (fun t hf y => ?_) (Memref.isWhole_whole _)
  rw [after0_6]
  exact hG6 m c t y

/-- The scale at `(a, b)` of the scale table. -/
def scK (c : Dev nD) (a : Fin 24) (b : Fin 512) : EReal :=
  Cert.Scale.scaleK (Cert.Scale.quo (X m c ⟨a.val * 512 + b.val, by omega⟩))

/-- The last point. -/
def last : Fin cfg0.N := ⟨239, by decide⟩

/-- A table that meets every block row's scales holds them all. -/
theorem meets_all (c : Dev nD) (Y : S24x512.Idx → Elt Ideal .f32) (h : ScaleMeets m c last Y) (z : S24x512.Idx) :
    Y z = scK m c (z 0) (z 1) := by
  have hz : (z 0).val < 24 := (z 0).isLt
  have h240 : cfg0.N = 240 := rfl
  have h1 := h ⟨(z 0).val * 10, by omega⟩ z (by show _ ≤ 239; show (z 0).val * 10 ≤ 239; omega)
    (by show (z 0).val * 10 % 10 = 0; omega) (by show (z 0).val = (z 0).val * 10 / 10; omega)
  refine h1.trans ?_
  refine (congrArg (k0_pay3 _) (eq_ix2 (n0 := 1) (n1 := 512) _)).trans ((pay3_apply _ _ _).trans ((scaleAt_apply m c _ _ _).trans ?_))
  unfold scK
  refine congrArg (fun R => Cert.Scale.scaleK (Cert.Scale.quo (X m c R))) (Fin.ext ?_)
  show (z 0).val * 10 / 10 * 512 + (z 1).val = (z 0).val * 512 + (z 1).val
  rw [Nat.mul_div_cancel _ (by decide)]

/-- The scale window is written back once, whole, after the last point. -/
theorem whole7 : (cfg0.win 7).WholeAt last := by decide +kernel

/-! ### The run -/

open Idealize.SL.Sem

/-- The run's three results. -/
theorem run_values (ρ : Dev nD → PrngReg) : θ_run defs (onTc (τ := τ) (main (F := Ideal))) ⟨m, fun _ => 0, ρ⟩ (fun r => ∀ c : Dev nD,
      r.2.mem ((c.tc : Thread nD τ).loc main_v3_0) = (fun j : S12288x10240.Idx => yK m c (j 0) (j 1))
      ∧ r.2.mem ((c.tc : Thread nD τ).loc main_v3_1) = (fun j : S12288x2560.Idx => codeK (X m c (j 0)) (j 1))
      ∧ r.2.mem ((c.tc : Thread nD τ).loc main_v3_2) = (fun z : S24x512.Idx => scK m c (z 0) (z 1))) :=
  (θ_run defs _ _).mono (fun r h c => by
    refine ⟨?_, ?_, ?_⟩
    · exact (Cert.Post.exact_out _ _ _ h c 5 rfl).trans (arr5 m c)
    · exact (Cert.Post.exact_out _ _ _ h c 6 rfl).trans (arr6 m c)
    · obtain ⟨Y, hR, hY⟩ := Cert.Post.held_out _ _ _ h c 7 rfl last whole7
      funext z
      exact (hY z).trans (meets_all m c Y hR z)) (run_main m ρ)

end Cert.KernelIdeal.Hand
-- ==== Proof.Equation.lean ====
/-
  The kernel's results are the reference's, on extended reals, when every activation is finite.
-/
module

public import proofs.«01_k».proof.Proof.Inputs
public import proofs.«01_k».proof.Proof.Results

@[expose] public section

set_option maxRecDepth 16384

noncomputable section

namespace Cert.Equation

open Idealize.ShloMosaic Idealize.ShloMosaic.TcCoe

/-- The two programs' reciprocals of a scale agree on a row of finite entries, and so do the codes. -/
theorem code_eq (X : Fin 2560 → EReal) (h : ∀ k, max (X k) (-X k) ≤ (Cert.Scale.big : EReal)) (k : Fin 2560) :
    Cert.KernelIdeal.Hand.codeK X k = Cert.ReferenceIdeal.Hand.codeR X k := by
  obtain ⟨r, hr, h0, h1⟩ := Cert.Scale.quo_real X h
  unfold Cert.KernelIdeal.Hand.codeK Cert.ReferenceIdeal.Hand.codeR
  rw [hr, Cert.Scale.invK_eq r h0 (by exact_mod_cast h1)]

/-- The two programs' scales agree on a row of finite entries. -/
theorem scale_eq (X : Fin 2560 → EReal) (h : ∀ k, max (X k) (-X k) ≤ (Cert.Scale.big : EReal)) :
    Cert.Scale.scaleK (Cert.Scale.quo X) = Cert.Scale.scaleR (Cert.Scale.quo X) := by
  obtain ⟨r, hr, h0, h1⟩ := Cert.Scale.quo_real X h
  rw [hr, Cert.Scale.scaleK_eq r h0 (by exact_mod_cast h1)]

/-- An entry of the kernel's turned adapter matrix. -/
theorem turned (A : Vec Ideal Cert.KernelIdeal.S2560x8 .bf16) (l : Fin 8) (k : Fin 2560) :
    transpose Cert.KernelIdeal.S8x2560 [1, 0] A Cert.KernelIdeal.Gen.transposes_S2560x8_S8x2560_1_0 (ix2 l k) = A (ix2 k l) := by
  pointwise

/-- An entry of a matrix that is a reshaped array is an entry of the array. -/
theorem reshaped {s t : Shape} {α : Type} (x : s.Idx → α) (h : s.ShapeCasts t) (j : t.Idx) : ∃ i, shapeCast t x h j = x i := ⟨_, rfl⟩

/-- Every entry of the activations is at most the largest bf16 value in magnitude. -/
def Bounded (x : Vec Ideal Cert.KernelIdeal.S24x512x2560 .bf16) : Prop :=
  ∀ i, max (x i : EReal) (-(x i : EReal)) ≤ (Cert.Scale.big : EReal)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4)
    = m ((c.tc : Thread Cert.KernelIdeal.nD Cert.KernelIdeal.τ).loc Cert.KernelIdeal.main_arg4))
  (hb : Bounded (m ((c.tc : Thread Cert.KernelIdeal.nD Cert.KernelIdeal.τ).loc Cert.KernelIdeal.main_arg0)))

include h0 in
/-- The two programs read the same activations. -/
theorem x_eq (R : Fin 12288) : Cert.ReferenceIdeal.Hand.X m' c R = Cert.KernelIdeal.Hand.X m c R := by
  funext k
  unfold Cert.ReferenceIdeal.Hand.X Cert.KernelIdeal.Hand.X
  rw [Cert.Inputs.kernel_x, Cert.Inputs.reference_x, h0]

include hb in
/-- Every activation is finite. -/
theorem x_bound (R : Fin 12288) (k : Fin 2560) :
    max (Cert.KernelIdeal.Hand.X m c R k) (-Cert.KernelIdeal.Hand.X m c R k) ≤ (Cert.Scale.big : EReal) := by
  unfold Cert.KernelIdeal.Hand.X
  rw [Cert.Inputs.kernel_x]
  obtain ⟨i, hi⟩ := reshaped (m ((c.tc : Thread Cert.KernelIdeal.nD Cert.KernelIdeal.τ).loc Cert.KernelIdeal.main_arg0) : Vec Ideal Cert.KernelIdeal.S24x512x2560 .bf16)
    Cert.KernelIdeal.Gen.shapeCasts_S24x512x2560_S12288x2560 (ix2 R k)
  rw [hi]
  exact hb i

include h0 hb in
/-- The codes agree. -/
theorem codes_eq (R : Fin 12288) (k : Fin 2560) :
    Cert.ReferenceIdeal.Hand.codeR (Cert.ReferenceIdeal.Hand.X m' c R) k = Cert.KernelIdeal.Hand.codeK (Cert.KernelIdeal.Hand.X m c R) k := by
  rw [x_eq m m' c h0, code_eq _ (x_bound m c hb R)]

include h0 hb in
/-- The scales agree. -/
theorem scales_eq (a : Fin 24) (b : Fin 512) : Cert.ReferenceIdeal.Hand.scR m' c a b = Cert.KernelIdeal.Hand.scK m c a b := by
  unfold Cert.ReferenceIdeal.Hand.scR Cert.KernelIdeal.Hand.scK
  rw [x_eq m m' c h0, scale_eq _ (x_bound m c hb _)]

include h0 h1 h2 h3 h4 hb in
/-- The outputs agree. -/
theorem y_eq (R : Fin 12288) (C : Fin 10240) : Cert.ReferenceIdeal.Hand.yR m' c R C = Cert.KernelIdeal.Hand.yK m c R C := by
  unfold Cert.ReferenceIdeal.Hand.yR Cert.KernelIdeal.Hand.yK
  rw [x_eq m m' c h0, scale_eq _ (x_bound m c hb R), Cert.Inputs.kernel_ws, Cert.Inputs.reference_ws, Cert.Inputs.kernel_la,
    Cert.KernelIdeal.Gen.V_main_arg1, Cert.KernelIdeal.Gen.V_main_arg4, Cert.ReferenceIdeal.Gen.V_main_arg1,
    Cert.ReferenceIdeal.Gen.V_main_arg3, Cert.ReferenceIdeal.Gen.V_main_arg4, h1, h2, h3, h4]
  refine congrArg₂ (fun a b : EReal => a * _ * _ + b * _) ?_ ?_
  · exact Finset.sum_congr rfl fun k _ => congrArg (fun a : EReal => a * _) (code_eq _ (x_bound m c hb R) k).symm
  · refine Finset.sum_congr rfl fun l _ => congrArg (fun a : EReal => a * _) ?_
    exact Finset.sum_congr rfl fun k _ => congrArg (fun a : EReal => _ * a) (turned _ l k).symm

end Cert.Equation
-- ==== Proof.Algebraic.lean ====
/-
  The value claim: from memories that agree on the arguments, with finite activations, the kernel and the reference
  end with the same three results.
-/
module

public import proofs.«01_k».proof.Proof.Equation

@[expose] public section

noncomputable section

namespace Cert.Equation

open Idealize.ShloMosaic Idealize.ShloMosaic.TcCoe Idealize.SL.Sem

attribute [local instance] Cert.Inputs.pre_facts

/-- Where the precondition holds, every activation is at most the largest bf16 value in magnitude. -/
theorem bounded_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    Bounded (m ((c.tc : Thread Cert.KernelIdeal.nD Cert.KernelIdeal.τ).loc Cert.KernelIdeal.main_arg0)) :=
  fun i => Cert.Inputs.bound_of_pre _ _ _ _ _ (h c) i

/-- The kernel and the reference both run and end with equal results and unchanged arguments. -/
theorem algebraic : Cert.algebraic_KernelIdeal_ReferenceIdeal_pre_finite (hKernelIdeal := Cert.KernelIdeal.Gen.facts)
    (hReferenceIdeal := Cert.ReferenceIdeal.Gen.facts) (hPre_finite := Cert.Inputs.pre_facts) := by
  intro m g m' g' hpre hargs
  have hb := bounded_of_pre m hpre
  refine ⟨fun c => (fun j : Cert.KernelIdeal.S12288x10240.Idx => Cert.KernelIdeal.Hand.yK m c (j 0) (j 1)),
    fun c => (fun j : Cert.KernelIdeal.S12288x2560.Idx => Cert.KernelIdeal.Hand.codeK (Cert.KernelIdeal.Hand.X m c (j 0)) (j 1)),
    fun c => (fun z : Cert.KernelIdeal.S24x512.Idx => Cert.KernelIdeal.Hand.scK m c (z 0) (z 1)), ?_, ?_⟩
  · exact (θ_run Cert.KernelIdeal.defs _ _).mono
      (fun r h c => ⟨(h.1 c).1, (h.1 c).2.1, (h.1 c).2.2, h.2 c⟩)
      (θ_run_and (Cert.KernelIdeal.Hand.run_values m g) (Cert.KernelIdeal.Hand.unchanged m g))
  · refine (θ_run Cert.ReferenceIdeal.defs _ _).mono (fun r h c => ?_) (Cert.ReferenceIdeal.Hand.run_values m' g')
    obtain ⟨a0, a1, a2, a3, a4⟩ := hargs c
    obtain ⟨e0, e1, e2, e3⟩ := h c
    refine ⟨e0.trans ?_, e1.trans ?_, e2.trans ?_, e3⟩
    · exact funext fun j => y_eq m m' c a0 a1 a2 a3 a4 (hb c) (j 0) (j 1)
    · exact funext fun j => codes_eq m m' c a0 (hb c) (j 0) (j 1)
    · exact funext fun z => scales_eq m m' c a0 (hb c) (z 0) (z 1)

end Cert.Equation
-- ==== Proof.lean ====
/-
  The proof of the certificate's claim: the frames of the kernel, of the kernel on extended reals and of the reference,
  and the equality of the kernel's three results with the reference's on extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Body
public import proofs.«01_k».proof.Proof.Same
public import proofs.«01_k».proof.Proof.Algebraic

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Inputs.pre_facts,
    fun m g _ => Cert.Same.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial, Cert.Equation.algebraic⟩

end Cert.Proof

end
